-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 4] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 4] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bitsLt_bf16_f32 : FTy.bits .bf16 < FTy.bits .f32
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .bf16) (main_arg6 : FVec F S2048x32 .bf16) (main_v15 : IVec S_ 1) (main_v17 : FVec F S128x2048 .f32) : IVec S_ 1 :=
  let main_cst_4 : FVec F S_ .f32 := constant S_ .f32 0x7F800000#32
  let main_v18 : FVec F S128x2048 .f32 := broadcastInDim S128x2048 ![] bcast_S_S128x2048 main_cst_4
  let main_v19 : IVec S128x2048 1 := cmpf .olt main_v17 main_v18
  let main_c_5 : IVec S_ 1 := constantI S_ 1 1#1
  let main_v20 : IVec S_ 1 := (fun x v => Host.reduce IntOp.andi x v reducesTo_S128x2048_S_d0_1 h_S_) main_v19 main_c_5
  let main_v21 : IVec S_ 1 := andi main_v15 main_v20
  let main_v22 : FVec F S2048x512 .f32 := (extf .f32 · bitsLt_bf16_f32) main_arg5
  let main_v23 : FVec F S2048x512 .f32 := Host.absf main_v22
  let main_cst_6 : FVec F S_ .f32 := constant S_ .f32 0x7F800000#32
  let main_v24 : FVec F S2048x512 .f32 := broadcastInDim S2048x512 ![] bcast_S_S2048x512 main_cst_6
  let main_v25 : IVec S2048x512 1 := cmpf .olt main_v23 main_v24
  let main_c_7 : IVec S_ 1 := constantI S_ 1 1#1
  let main_v26 : IVec S_ 1 := (fun x v => Host.reduce IntOp.andi x v reducesTo_S2048x512_S_d0_1 h_S_) main_v25 main_c_7
  let main_v27 : IVec S_ 1 := andi main_v21 main_v26
  let main_v28 : FVec F S2048x32 .f32 := (extf .f32 · bitsLt_bf16_f32) main_arg6
  let main_v29 : FVec F S2048x32 .f32 := Host.absf main_v28
  let main_cst_8 : FVec F S_ .f32 := constant S_ .f32 0x7F800000#32
  let main_v30 : FVec F S2048x32 .f32 := broadcastInDim S2048x32 ![] bcast_S_S2048x32 main_cst_8
  let main_v31 : IVec S2048x32 1 := cmpf .olt main_v29 main_v30
  let main_c_9 : IVec S_ 1 := constantI S_ 1 1#1
  let main_v32 : IVec S_ 1 := (fun x v => Host.reduce IntOp.andi x v reducesTo_S2048x32_S_d0_1 h_S_) main_v31 main_c_9
  let main_v33 : IVec S_ 1 := andi main_v27 main_v32
  main_v33

def fn {F : FTy → Type} [FloatOps F] (main_arg0 : FVec F S1x1024x2048 .bf16) (main_arg1 : FVec F S2048x128 .bf16) (main_arg2 : FVec F S128x2048 .bf16) (main_arg3 : FVec F S128x2048 .bf16) (main_arg4 : FVec F S2048x2048 .f32) (main_arg5 : FVec F S2048x512 .bf16) (main_arg6 : FVec F S2048x32 .bf16) (main_arg7 : FVec F S2048x2048 .f32) : IVec S_ 1 :=
  let main_v0 : FVec F S2048x2048 .f32 := Host.absf main_arg4
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S1x1024x2048 .f32 := (extf .f32 · bitsLt_bf16_f32) main_arg0
  let main_v5 : FVec F S1x1024x2048 .f32 := Host.absf main_v4
  let main_cst_0 : FVec F S_ .f32 := constant S_ .f32 0x7F800000#32
  let main_v6 : FVec F S1x1024x2048 .f32 := broadcastInDim S1x1024x2048 ![] bcast_S_S1x1024x2048 main_cst_0
  let main_v7 : IVec S1x1024x2048 1 := cmpf .olt main_v5 main_v6
  let main_c_1 : IVec S_ 1 := constantI S_ 1 1#1
  let main_v8 : IVec S_ 1 := (fun x v => Host.reduce IntOp.andi x v reducesTo_S1x1024x2048_S_d0_1_2 h_S_) main_v7 main_c_1
  let main_v9 : IVec S_ 1 := andi main_v3 main_v8
  let main_v10 : FVec F S2048x128 .f32 := (extf .f32 · bitsLt_bf16_f32) main_arg1
  let main_v11 : FVec F S2048x128 .f32 := Host.absf main_v10
  let main_cst_2 : FVec F S_ .f32 := constant S_ .f32 0x7F800000#32
  let main_v12 : FVec F S2048x128 .f32 := broadcastInDim S2048x128 ![] bcast_S_S2048x128 main_cst_2
  let main_v13 : IVec S2048x128 1 := cmpf .olt main_v11 main_v12
  let main_c_3 : IVec S_ 1 := constantI S_ 1 1#1
  let main_v14 : IVec S_ 1 := (fun x v => Host.reduce IntOp.andi x v reducesTo_S2048x128_S_d0_1 h_S_) main_v13 main_c_3
  let main_v15 : IVec S_ 1 := andi main_v9 main_v14
  let main_v16 : FVec F S128x2048 .f32 := (extf .f32 · bitsLt_bf16_f32) main_arg2
  let main_v17 : FVec F S128x2048 .f32 := Host.absf main_v16
  fn_part1 (F := F) main_arg5 main_arg6 main_v15 main_v17
-- ==== Pre_finite_ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bitsLt_bf16_f32 : FTy.bits .bf16 < FTy.bits .f32
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .bf16) (main_arg6 : FVec F S2048x32 .bf16) (main_v15 : IVec S_ 1) (main_v17 : FVec F S256x2048 .f32) : IVec S_ 1 :=
  let main_cst_4 : FVec F S_ .f32 := constant S_ .f32 0x7F800000#32
  let main_v18 : FVec F S256x2048 .f32 := broadcastInDim S256x2048 ![] bcast_S_S256x2048 main_cst_4
  let main_v19 : IVec S256x2048 1 := cmpf .olt main_v17 main_v18
  let main_c_5 : IVec S_ 1 := constantI S_ 1 1#1
  let main_v20 : IVec S_ 1 := (fun x v => Host.reduce IntOp.andi x v reducesTo_S256x2048_S_d0_1 h_S_) main_v19 main_c_5
  let main_v21 : IVec S_ 1 := andi main_v15 main_v20
  let main_v22 : FVec F S2048x512 .f32 := (extf .f32 · bitsLt_bf16_f32) main_arg5
  let main_v23 : FVec F S2048x512 .f32 := Host.absf main_v22
  let main_cst_6 : FVec F S_ .f32 := constant S_ .f32 0x7F800000#32
  let main_v24 : FVec F S2048x512 .f32 := broadcastInDim S2048x512 ![] bcast_S_S2048x512 main_cst_6
  let main_v25 : IVec S2048x512 1 := cmpf .olt main_v23 main_v24
  let main_c_7 : IVec S_ 1 := constantI S_ 1 1#1
  let main_v26 : IVec S_ 1 := (fun x v => Host.reduce IntOp.andi x v reducesTo_S2048x512_S_d0_1 h_S_) main_v25 main_c_7
  let main_v27 : IVec S_ 1 := andi main_v21 main_v26
  let main_v28 : FVec F S2048x32 .f32 := (extf .f32 · bitsLt_bf16_f32) main_arg6
  let main_v29 : FVec F S2048x32 .f32 := Host.absf main_v28
  let main_cst_8 : FVec F S_ .f32 := constant S_ .f32 0x7F800000#32
  let main_v30 : FVec F S2048x32 .f32 := broadcastInDim S2048x32 ![] bcast_S_S2048x32 main_cst_8
  let main_v31 : IVec S2048x32 1 := cmpf .olt main_v29 main_v30
  let main_c_9 : IVec S_ 1 := constantI S_ 1 1#1
  let main_v32 : IVec S_ 1 := (fun x v => Host.reduce IntOp.andi x v reducesTo_S2048x32_S_d0_1 h_S_) main_v31 main_c_9
  let main_v33 : IVec S_ 1 := andi main_v27 main_v32
  main_v33

def fn {F : FTy → Type} [FloatOps F] (main_arg0 : FVec F S1x1024x2048 .bf16) (main_arg1 : FVec F S2048x256 .bf16) (main_arg2 : FVec F S256x2048 .bf16) (main_arg3 : FVec F S256x2048 .bf16) (main_arg4 : FVec F S2048x2048 .f32) (main_arg5 : FVec F S2048x512 .bf16) (main_arg6 : FVec F S2048x32 .bf16) (main_arg7 : FVec F S2048x2048 .f32) : IVec S_ 1 :=
  let main_v0 : FVec F S2048x2048 .f32 := Host.absf main_arg4
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S1x1024x2048 .f32 := (extf .f32 · bitsLt_bf16_f32) main_arg0
  let main_v5 : FVec F S1x1024x2048 .f32 := Host.absf main_v4
  let main_cst_0 : FVec F S_ .f32 := constant S_ .f32 0x7F800000#32
  let main_v6 : FVec F S1x1024x2048 .f32 := broadcastInDim S1x1024x2048 ![] bcast_S_S1x1024x2048 main_cst_0
  let main_v7 : IVec S1x1024x2048 1 := cmpf .olt main_v5 main_v6
  let main_c_1 : IVec S_ 1 := constantI S_ 1 1#1
  let main_v8 : IVec S_ 1 := (fun x v => Host.reduce IntOp.andi x v reducesTo_S1x1024x2048_S_d0_1_2 h_S_) main_v7 main_c_1
  let main_v9 : IVec S_ 1 := andi main_v3 main_v8
  let main_v10 : FVec F S2048x256 .f32 := (extf .f32 · bitsLt_bf16_f32) main_arg1
  let main_v11 : FVec F S2048x256 .f32 := Host.absf main_v10
  let main_cst_2 : FVec F S_ .f32 := constant S_ .f32 0x7F800000#32
  let main_v12 : FVec F S2048x256 .f32 := broadcastInDim S2048x256 ![] bcast_S_S2048x256 main_cst_2
  let main_v13 : IVec S2048x256 1 := cmpf .olt main_v11 main_v12
  let main_c_3 : IVec S_ 1 := constantI S_ 1 1#1
  let main_v14 : IVec S_ 1 := (fun x v => Host.reduce IntOp.andi x v reducesTo_S2048x256_S_d0_1 h_S_) main_v13 main_c_3
  let main_v15 : IVec S_ 1 := andi main_v9 main_v14
  let main_v16 : FVec F S256x2048 .f32 := (extf .f32 · bitsLt_bf16_f32) main_arg2
  let main_v17 : FVec F S256x2048 .f32 := Host.absf main_v16
  fn_part1 (F := F) main_arg5 main_arg6 main_v15 main_v17
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x128 : Shape := ⟨2, ![1024, 128]⟩
abbrev S1024x2048 : Shape := ⟨2, ![1024, 2048]⟩
abbrev S2x2048x256 : Shape := ⟨3, ![2, 2048, 256]⟩
abbrev S2x128x2048 : Shape := ⟨3, ![2, 128, 2048]⟩
abbrev S3 : Shape := ⟨1, ![3]⟩
abbrev S2 : Shape := ⟨1, ![2]⟩
abbrev S1 : Shape := ⟨1, ![1]⟩
abbrev S_ : Shape := ⟨0, ![]⟩
abbrev S1x2048x256 : Shape := ⟨3, ![1, 2048, 256]⟩
abbrev S2048x256 : Shape := ⟨2, ![2048, 256]⟩
abbrev S1024x256 : Shape := ⟨2, ![1024, 256]⟩
abbrev S1024x512 : Shape := ⟨2, ![1024, 512]⟩
abbrev S1024x32 : Shape := ⟨2, ![1024, 32]⟩
abbrev S1x128x2048 : Shape := ⟨3, ![1, 128, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S1x1024x2048, .bf16⟩
  | .hbm, ⟨1, _⟩ => ⟨S2048x128, .bf16⟩
  | .hbm, ⟨2, _⟩ => ⟨S128x2048, .bf16⟩
  | .hbm, ⟨3, _⟩ => ⟨S128x2048, .bf16⟩
  | .hbm, ⟨4, _⟩ => ⟨S2048x2048, .f32⟩
  | .hbm, ⟨5, _⟩ => ⟨S2048x512, .bf16⟩
  | .hbm, ⟨6, _⟩ => ⟨S2048x32, .bf16⟩
  | .hbm, ⟨7, _⟩ => ⟨S2048x2048, .f32⟩
  | .hbm, ⟨8, _⟩ => ⟨S1x1024x2048, .f32⟩
  | .local _ .vmem, ⟨0, _⟩ => ⟨S1x1024x2048, .bf16⟩
  | .local _ .vmem, ⟨1, _⟩ => ⟨S2048x128, .bf16⟩
  | .local _ .vmem, ⟨2, _⟩ => ⟨S128x2048, .bf16⟩
  | .local _ .vmem, ⟨3, _⟩ => ⟨S128x2048, .bf16⟩
  | .local _ .vmem, ⟨4, _⟩ => ⟨S2048x512, .bf16⟩
  | .local _ .vmem, ⟨5, _⟩ => ⟨S2048x32, .bf16⟩
  | .local _ .vmem, ⟨6, _⟩ => ⟨S1x1024x2048, .f32⟩
  | .local _ .vmem, ⟨7, _⟩ => ⟨S1024x128, .bf16⟩
  | .local _ .vmem, ⟨8, _⟩ => ⟨S1024x128, .bf16⟩
  | .local _ .vmem, ⟨9, _⟩ => ⟨S128x2048, .bf16⟩
  | .local _ .vmem, ⟨10, _⟩ => ⟨S128x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S2x2048x256, .f32⟩
  | .local _ .vmem, ⟨15, _⟩ => ⟨S2x128x2048, .f32⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_15 : BitVec 32 := 8#32
  let v25 : BitVec 32 := Scalar.muli v9 c8_i32_15
  let v26 : BitVec 32 := Scalar.addi c0_i32_16 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_17 : BitVec 32 := 4#32
  let v27 : BitVec 32 := Scalar.muli v5 c4_i32_17
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v29 : BitVec 32 := Scalar.muli v8 c1_i32_18
  let v30 : BitVec 32 := Scalar.addi v28 v29
  v30.toNat
def k0_dev2 (d0 : Dev nD) : Nat :=
  let c0_i32_23 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_22 : BitVec 32 := 8#32
  let v31 : BitVec 32 := Scalar.muli v9 c8_i32_22
  let v32 : BitVec 32 := Scalar.addi c0_i32_23 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v33 : BitVec 32 := Scalar.muli v5 c4_i32_24
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.muli v8 c1_i32_25
  let v36 : BitVec 32 := Scalar.addi v34 v35
  v36.toNat
def k0_dev3 (d0 : Dev nD) : Nat :=
  let c0_i32_29 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_28 : BitVec 32 := 8#32
  let v41 : BitVec 32 := Scalar.muli v9 c8_i32_28
  let v42 : BitVec 32 := Scalar.addi c0_i32_29 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v43 : BitVec 32 := Scalar.muli v5 c4_i32_30
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v45 : BitVec 32 := Scalar.muli v8 c1_i32_31
  let v46 : BitVec 32 := Scalar.addi v44 v45
  v46.toNat
def k0_dev4 (d0 : Dev nD) : Nat :=
  let c0_i32_35 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_34 : BitVec 32 := 8#32
  let v51 : BitVec 32 := Scalar.muli v9 c8_i32_34
  let v52 : BitVec 32 := Scalar.addi c0_i32_35 v51
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v53 : BitVec 32 := Scalar.muli v5 c4_i32_36
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v55 : BitVec 32 := Scalar.muli v8 c1_i32_37
  let v56 : BitVec 32 := Scalar.addi v54 v55
  v56.toNat
abbrev stage0_0 : Fin 1 → Memref sig .tc .vmem S1x1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1x1024x2048 : Shape := ⟨3, ![1, 1024, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S1x1024x256 : Shape := ⟨3, ![1, 1024, 256]⟩
abbrev S1x1024x16x128 : Shape := ⟨4, ![1, 1024, 16, 128]⟩
abbrev S1x1024x512 : Shape := ⟨3, ![1, 1024, 512]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S1x16x1024x1024 : Shape := ⟨4, ![1, 16, 1024, 1024]⟩
abbrev S_ : Shape := ⟨0, ![]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x1024x2048, .bf16⟩
  | .hbm, ⟨1, _⟩ => ⟨S2048x256, .bf16⟩
  | .hbm, ⟨2, _⟩ => ⟨S256x2048, .bf16⟩
  | .hbm, ⟨3, _⟩ => ⟨S256x2048, .bf16⟩
  | .hbm, ⟨4, _⟩ => ⟨S2048x2048, .f32⟩
  | .hbm, ⟨5, _⟩ => ⟨S2048x512, .bf16⟩
  | .hbm, ⟨6, _⟩ => ⟨S2048x32, .bf16⟩
  | .hbm, ⟨7, _⟩ => ⟨S2048x2048, .f32⟩
  | .hbm, ⟨8, _⟩ => ⟨S1x1024x2048, .f32⟩
  | .hbm, ⟨9, _⟩ => ⟨S2048x256, .f32⟩
  | .hbm, ⟨10, _⟩ => ⟨S256x2048, .f32⟩
  | .hbm, ⟨11, _⟩ => ⟨S256x2048, .f32⟩
  | .hbm, ⟨12, _⟩ => ⟨S2048x512, .f32⟩
  | .hbm, ⟨13, _⟩ => ⟨S2048x32, .f32⟩
  | .hbm, ⟨14, _⟩ => ⟨S1x1024x256, .f32⟩
  | .hbm, ⟨15, _⟩ => ⟨S1x1024x2048, .f32⟩
  | .hbm, ⟨16, _⟩ => ⟨S1x1024x16x128, .f32⟩
  | .hbm, ⟨17, _⟩ => ⟨S1x1024x2048, .f32⟩
  | .hbm, ⟨18, _⟩ => ⟨S1x1024x16x128, .f32⟩
  | .hbm, ⟨19, _⟩ => ⟨S1x1024x2048, .f32⟩
  | .hbm, ⟨20, _⟩ => ⟨S1x1024x16x128, .f32⟩
  | .hbm, ⟨21, _⟩ => ⟨S1x1024x512, .f32⟩
  | .hbm, ⟨22, _⟩ => ⟨S1x1024x16x32, .f32⟩
  | .hbm, ⟨23, _⟩ => ⟨S1x1024x32, .f32⟩
  | .hbm, ⟨24, _⟩ => ⟨S1x1024x1x32, .f32⟩
  | .hbm, ⟨25, _⟩ => ⟨S1x16x1024x1024, .f32⟩
  | .hbm, ⟨26, _⟩ => ⟨S1x1024x16x32, .f32⟩
  | .hbm, ⟨27, _⟩ => ⟨S1x16x1024x1024, .f32⟩
  | .hbm, ⟨28, _⟩ => ⟨S1x16x1024x1024, .f32⟩
  | .hbm, ⟨29, _⟩ => ⟨S_, .f32⟩
  | .hbm, ⟨30, _⟩ => ⟨S1x16x1024x1024, .f32⟩
  | .hbm, ⟨31, _⟩ => ⟨S1x16x1024x1024, .f32⟩
  | .hbm, ⟨32, _⟩ => ⟨S_, .f32⟩
  | .hbm, ⟨33, _⟩ => ⟨S1x16x1024, .f32⟩
  | .hbm, ⟨34, _⟩ => ⟨S1x16x1024x1, .f32⟩
  | .hbm, ⟨35, _⟩ => ⟨S1x16x1024x1024, .f32⟩
  | .hbm, ⟨36, _⟩ => ⟨S1x16x1024x1024, .f32⟩
  | .hbm, ⟨37, _⟩ => ⟨S1x16x1024x1024, .f32⟩
  | .hbm, ⟨38, _⟩ => ⟨S_, .f32⟩
  | .hbm, ⟨39, _⟩ => ⟨S1x16x1024, .f32⟩
  | .hbm, ⟨40, _⟩ => ⟨S1x16x1024x1, .f32⟩
  | .hbm, ⟨41, _⟩ => ⟨S1x16x1024x1024, .f32⟩
  | .hbm, ⟨42, _⟩ => ⟨S1x16x1024x1024, .f32⟩
  | .hbm, ⟨43, _⟩ => ⟨S1x16x128x1024, .f32⟩
  | .hbm, ⟨44, _⟩ => ⟨S1x1024x16x128, .f32⟩
  | .hbm, ⟨45, _⟩ => ⟨S1x1024x2048, .f32⟩
  | .hbm, ⟨46, _⟩ => ⟨S1x1024x2048, .f32⟩
  | _, _ => ⟨S1x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Protocol.lean ====
/-
  The exchange between the two devices of a row of the mesh: device `c` and its partner `peer c` (the device whose
  first mesh coordinate is the other one). Each announces on the partner's barrier semaphore that its three landing
  buffers are free, waits for the partner's announcement, then copies three buffers into the partner's landing buffers:
  its half of the compressed rows, its block of the key up-projection and its block of the value up-projection.
  Seven cells a device: the barrier cell, three departure cells, three arrival cells, one round each, one duty each.
  The sources stay readable while the copies fly: a copy is lent the left half of the share of its source.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the exchange's rounds, the counters of the local copies -/

abbrev UX : Type := URounds (GSem nD τ sig) Unit
abbrev UU : Type := UR sig nD τ × (UX × Counters)

local notation "𝕄" => MT nD τ sig Unit (Elt F) ℕ UU ℕ

abbrev EP : Emb (UR sig nD τ) (MT nD τ sig Unit (Elt F) ℕ UU ℕ) := embL
def ER : Emb UX (MT nD τ sig Unit (Elt F) ℕ UU ℕ) := (Emb.inl : Emb UX (UX × Counters)).trans embR

instance er_landsIn : (ER : Emb UX (MT nD τ sig Unit (Elt F) ℕ UU ℕ)).LandsIn (upEmb : UEmb _ (MT nD τ sig Unit (Elt F) ℕ UU ℕ)) := by
  unfold ER embR; infer_instance

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The partner -/

set_option backward.proofsInPublic true in
/-- The device with the other first coordinate. -/
def peer (c : Dev nD) : Dev nD := ⟨(c.val + 8) % 16, Nat.mod_lt _ (by decide)⟩

theorem peer_peer (c : Dev nD) : peer (peer c) = c := by revert c; decide
theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide

attribute [irreducible] peer

def swap : Dev nD ≃ Dev nD := ⟨peer, peer, peer_peer, peer_peer⟩

/-! ## Buffers -/

abbrev xM : Memref sig .tc .vmem S1x1024x2048 .bf16 := Memref.whole cc0_stg0_0
abbrev wdM : Memref sig .tc .vmem S2048x128 .bf16 := Memref.whole cc0_stg1_0
abbrev ukM : Memref sig .tc .vmem S128x2048 .bf16 := Memref.whole cc0_stg2_0
abbrev uvM : Memref sig .tc .vmem S128x2048 .bf16 := Memref.whole cc0_stg3_0
abbrev wqrM : Memref sig .tc .vmem S2048x512 .bf16 := Memref.whole cc0_stg4_0
abbrev wkrM : Memref sig .tc .vmem S2048x32 .bf16 := Memref.whole cc0_stg5_0
abbrev outM : Memref sig .tc .vmem S1x1024x2048 .f32 := Memref.whole cc0_stg6_0
abbrev wqM : Memref sig .tc .hbm S2048x2048 .f32 := Memref.whole main_arg4
abbrev woM : Memref sig .tc .hbm S2048x2048 .f32 := Memref.whole main_arg7
abbrev csM : Memref sig .tc .vmem S1024x128 .bf16 := Memref.whole cc0_scratch0
abbrev crM : Memref sig .tc .vmem S1024x128 .bf16 := Memref.whole cc0_scratch1
abbrev krM : Memref sig .tc .vmem S128x2048 .bf16 := Memref.whole cc0_scratch2
abbrev vrM : Memref sig .tc .vmem S128x2048 .bf16 := Memref.whole cc0_scratch3
abbrev qM : Memref sig .tc .vmem S1024x2048 .bf16 := Memref.whole cc0_scratch4
abbrev kM : Memref sig .tc .vmem S1024x2048 .bf16 := Memref.whole cc0_scratch5
abbrev vM : Memref sig .tc .vmem S1024x2048 .bf16 := Memref.whole cc0_scratch6
abbrev wqSt : Memref sig .tc .vmem S2x2048x256 .f32 := Memref.whole cc0_scratch7
abbrev woSt : Memref sig .tc .vmem S2x128x2048 .f32 := Memref.whole cc0_scratch8

/-- The buffer of memref `M` on device `c` at contents `f`, share `q`. -/
abbrev pt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

/-! ## Cells -/

abbrev barS : Sem sig := (SemArray.scalar (sig.barrier 0 rfl) : Sems sig S_).sem

abbrev barCell (c : Dev nD) : GSem nD τ sig := ((c : Thread nD τ), .reg barS)
abbrev sc0 (c : Dev nD) : GSem nD τ sig := ((c : Thread nD τ), .dma 7)
abbrev sc1 (c : Dev nD) : GSem nD τ sig := ((c : Thread nD τ), .dma 8)
abbrev sc2 (c : Dev nD) : GSem nD τ sig := ((c : Thread nD τ), .dma 9)
abbrev rc0 (c : Dev nD) : GSem nD τ sig := ((c : Thread nD τ), .dma 10)
abbrev rc1 (c : Dev nD) : GSem nD τ sig := ((c : Thread nD τ), .dma 11)
abbrev rc2 (c : Dev nD) : GSem nD τ sig := ((c : Thread nD τ), .dma 12)

/-- The seven semaphores of the exchange: the barrier, the departures, the arrivals. -/
abbrev csem : Fin 7 → SemLoc sig := ![.reg barS, .dma 7, .dma 8, .dma 9, .dma 10, .dma 11, .dma 12]
abbrev kcell (ck : Dev nD × Fin 7) : GSem nD τ sig := ((ck.1 : Thread nD τ), csem ck.2)
/-- The kernel's own scoped semaphores: departures, arrivals, and the four of the local copies. -/
abbrev osem : Fin 10 → SemLoc sig := ![.dma 7, .dma 8, .dma 9, .dma 10, .dma 11, .dma 12, .dma 13, .dma 14, .dma 15, .dma 16]

abbrev N0 : ℕ := (crM : Memref sig .tc .vmem S1024x128 .bf16).view.dmaCredit
abbrev N1 : ℕ := (krM : Memref sig .tc .vmem S128x2048 .bf16).view.dmaCredit
theorem N0_pos : 0 < N0 := View.dmaCredit_pos _ (by decide)
theorem N1_pos : 0 < N1 := View.dmaCredit_pos _ (by decide)

/-! ## Contents -/

/-- The operands of device `c` in its staging buffers. -/
def xst (c : Dev nD) : (cc0_stg0_0 : Ref sig .tc).ty.Contents (Elt F) := (win0_0.blk (0 : Fin 1)).view.read (Elt F) ((s₀ m ρ).mem ((c : Thread nD τ).loc main_arg0))
def wdst (c : Dev nD) : (cc0_stg1_0 : Ref sig .tc).ty.Contents (Elt F) := (win0_1.blk (0 : Fin 1)).view.read (Elt F) ((s₀ m ρ).mem ((c : Thread nD τ).loc main_arg1))
def ukst (c : Dev nD) : (cc0_stg2_0 : Ref sig .tc).ty.Contents (Elt F) := (win0_2.blk (0 : Fin 1)).view.read (Elt F) ((s₀ m ρ).mem ((c : Thread nD τ).loc main_arg2))
def uvst (c : Dev nD) : (cc0_stg3_0 : Ref sig .tc).ty.Contents (Elt F) := (win0_3.blk (0 : Fin 1)).view.read (Elt F) ((s₀ m ρ).mem ((c : Thread nD τ).loc main_arg3))
def wqrst (c : Dev nD) : (cc0_stg4_0 : Ref sig .tc).ty.Contents (Elt F) := (win0_4.blk (0 : Fin 1)).view.read (Elt F) ((s₀ m ρ).mem ((c : Thread nD τ).loc main_arg5))
def wkrst (c : Dev nD) : (cc0_stg5_0 : Ref sig .tc).ty.Contents (Elt F) := (win0_5.blk (0 : Fin 1)).view.read (Elt F) ((s₀ m ρ).mem ((c : Thread nD τ).loc main_arg6))

/-- Device `c`'s half of the compressed rows: what it computes first and sends. -/
def csend (c : Dev nD) : (cc0_scratch0 : Ref sig .tc).ty.Contents (Elt F) := k0_pay3 (xst m ρ c) (wdst m ρ c)

/-! ## The schedule -/

/-- What the partner's signal hands `c`: the partner's landing buffers, and that its arrival cells are at round 0. -/
def barPay (c : Dev nD) : sProp 𝕄 :=
  iprop((∃ f, pt (peer c) crM fullShare f) ∗ (∃ f, pt (peer c) krM fullShare f) ∗ (∃ f, pt (peer c) vrM fullShare f)
    ∗ reached ER (rc0 (peer c)) 0 ∗ reached ER (rc1 (peer c)) 0 ∗ reached ER (rc2 (peer c)) 0)

set_option synthInstance.maxHeartbeats 400000 in
instance barPay_storable (c : Dev nD) : BI.Storable (upEmb : UEmb _ 𝕄) (barPay (F := F) c) := by unfold barPay; infer_instance

/-- A departure hands the lent half of the source back; an arrival hands the landing buffer at the partner's contents. -/
def pay (c : Dev nD) (l : SemLoc sig) : sProp 𝕄 :=
  if l = .reg barS then barPay c
  else if l = .dma 7 then pt c csM fullShare.left (csend m ρ c)
  else if l = .dma 8 then pt c ukM fullShare.left (ukst m ρ c)
  else if l = .dma 9 then pt c uvM fullShare.left (uvst m ρ c)
  else if l = .dma 10 then pt c crM fullShare (csend m ρ (peer c))
  else if l = .dma 11 then pt c krM fullShare (ukst m ρ (peer c))
  else if l = .dma 12 then pt c vrM fullShare (uvst m ρ (peer c))
  else iprop(emp)

def amt (l : SemLoc sig) : ℕ := if l = .reg barS then 1 else if l = .dma 7 ∨ l = .dma 10 then N0 else N1
theorem amt_pos (l : SemLoc sig) : 0 < amt l := by
  unfold amt; split
  · exact Nat.one_pos
  · split
    · exact N0_pos
    · exact N1_pos

abbrev IsCell (g : GSem nD τ sig) : Prop := g.1.2 = .tc ∧ ∃ k : Fin 7, g.2 = csem k

def sched : Rounds.Schedule (GSem nD τ sig) Unit 𝕄 where
  duties g r := if r = 0 ∧ IsCell g then {()} else ∅
  unitless _ := False
  amount g _ _ := amt g.2
  payload g _ _ := pay m ρ g.1.1 g.2
  amount_pos g _ _ _ := amt_pos g.2

instance sched_payload_storable (g : GSem nD τ sig) (r : ℕ) (d : Unit) :
    BI.Storable (upEmb : UEmb _ 𝕄) ((sched (F := F) m ρ).payload g r d) := by
  show BI.Storable upEmb (pay m ρ g.1.1 g.2)
  unfold pay
  (repeat' split) <;> infer_instance

section Tables
variable (c : Dev nD)

theorem duties_cell (k : Fin 7) : (sched (F := F) m ρ).duties (kcell (c, k)) 0 = {()} := by
  dsimp only [sched]; exact if_pos ⟨rfl, rfl, k, rfl⟩
theorem duties_later (g : GSem nD τ sig) : ∀ r, 1 ≤ r → (sched (F := F) m ρ).duties g r = ∅ :=
  fun r hr => by dsimp only [sched]; exact if_neg fun h => by omega
theorem expect_cell (k : Fin 7) : (sched (F := F) m ρ).expect (kcell (c, k)) 0 = amt (csem k) := by
  unfold Schedule.expect Schedule.amountOf; rw [duties_cell, Finset.sum_singleton]; rfl

theorem duties_bar : (sched (F := F) m ρ).duties (barCell c) 0 = {()} := duties_cell m ρ c 0
theorem duties_s0 : (sched (F := F) m ρ).duties (sc0 c) 0 = {()} := duties_cell m ρ c 1
theorem duties_s1 : (sched (F := F) m ρ).duties (sc1 c) 0 = {()} := duties_cell m ρ c 2
theorem duties_s2 : (sched (F := F) m ρ).duties (sc2 c) 0 = {()} := duties_cell m ρ c 3
theorem duties_r0 : (sched (F := F) m ρ).duties (rc0 c) 0 = {()} := duties_cell m ρ c 4
theorem duties_r1 : (sched (F := F) m ρ).duties (rc1 c) 0 = {()} := duties_cell m ρ c 5
theorem duties_r2 : (sched (F := F) m ρ).duties (rc2 c) 0 = {()} := duties_cell m ρ c 6

theorem amt_bar : amt (.reg barS) = 1 := by decide
theorem amt_7 : amt (.dma 7) = N0 := by unfold amt; rw [if_neg (by decide), if_pos (by decide)]
theorem amt_8 : amt (.dma 8) = N1 := by unfold amt; rw [if_neg (by decide), if_neg (by decide)]
theorem amt_9 : amt (.dma 9) = N1 := by unfold amt; rw [if_neg (by decide), if_neg (by decide)]
theorem amt_10 : amt (.dma 10) = N0 := by unfold amt; rw [if_neg (by decide), if_pos (by decide)]
theorem amt_11 : amt (.dma 11) = N1 := by unfold amt; rw [if_neg (by decide), if_neg (by decide)]
theorem amt_12 : amt (.dma 12) = N1 := by unfold amt; rw [if_neg (by decide), if_neg (by decide)]

theorem amount_bar (d : Unit) : (sched (F := F) m ρ).amount (barCell c) 0 d = 1 := amt_bar
theorem amount_s0 (d : Unit) : (sched (F := F) m ρ).amount (sc0 c) 0 d = N0 := amt_7
theorem amount_s1 (d : Unit) : (sched (F := F) m ρ).amount (sc1 c) 0 d = N1 := amt_8
theorem amount_s2 (d : Unit) : (sched (F := F) m ρ).amount (sc2 c) 0 d = N1 := amt_9
theorem amount_r0 (d : Unit) : (sched (F := F) m ρ).amount (rc0 c) 0 d = N0 := amt_10
theorem amount_r1 (d : Unit) : (sched (F := F) m ρ).amount (rc1 c) 0 d = N1 := amt_11
theorem amount_r2 (d : Unit) : (sched (F := F) m ρ).amount (rc2 c) 0 d = N1 := amt_12

theorem expect_bar : (sched (F := F) m ρ).expect (barCell c) 0 = 1 := (expect_cell m ρ c 0).trans amt_bar
theorem expect_s0 : (sched (F := F) m ρ).expect (sc0 c) 0 = N0 := (expect_cell m ρ c 1).trans amt_7
theorem expect_s1 : (sched (F := F) m ρ).expect (sc1 c) 0 = N1 := (expect_cell m ρ c 2).trans amt_8
theorem expect_s2 : (sched (F := F) m ρ).expect (sc2 c) 0 = N1 := (expect_cell m ρ c 3).trans amt_9
theorem expect_r0 : (sched (F := F) m ρ).expect (rc0 c) 0 = N0 := (expect_cell m ρ c 4).trans amt_10
theorem expect_r1 : (sched (F := F) m ρ).expect (rc1 c) 0 = N1 := (expect_cell m ρ c 5).trans amt_11
theorem expect_r2 : (sched (F := F) m ρ).expect (rc2 c) 0 = N1 := (expect_cell m ρ c 6).trans amt_12

theorem payload_bar (d : Unit) : (sched (F := F) m ρ).payload (barCell c) 0 d
    = iprop((∃ f, (crM.view.loc (((peer c) : Dev nD) : Thread nD τ) ↦[crM.view.set]{fullShare} f)) ∗ (∃ f, (krM.view.loc (((peer c) : Dev nD) : Thread nD τ) ↦[krM.view.set]{fullShare} f)) ∗ (∃ f, (vrM.view.loc (((peer c) : Dev nD) : Thread nD τ) ↦[vrM.view.set]{fullShare} f))
      ∗ reached ER (rc0 (peer c)) 0 ∗ reached ER (rc1 (peer c)) 0 ∗ reached ER (rc2 (peer c)) 0) := by
  dsimp only [sched, pay]; rw [if_pos rfl]; rfl
theorem payload_s0 (d : Unit) : (sched (F := F) m ρ).payload (sc0 c) 0 d = (csM.view.loc ((c : Dev nD) : Thread nD τ) ↦[csM.view.set]{fullShare.left} (csend m ρ c)) := by
  dsimp only [sched, pay]; rw [if_neg (by decide), if_pos (by decide)]
theorem payload_s1 (d : Unit) : (sched (F := F) m ρ).payload (sc1 c) 0 d = (ukM.view.loc ((c : Dev nD) : Thread nD τ) ↦[ukM.view.set]{fullShare.left} (ukst m ρ c)) := by
  dsimp only [sched, pay]; rw [if_neg (by decide), if_neg (by decide), if_pos (by decide)]
theorem payload_s2 (d : Unit) : (sched (F := F) m ρ).payload (sc2 c) 0 d = (uvM.view.loc ((c : Dev nD) : Thread nD τ) ↦[uvM.view.set]{fullShare.left} (uvst m ρ c)) := by
  dsimp only [sched, pay]; rw [if_neg (by decide), if_neg (by decide), if_neg (by decide), if_pos (by decide)]
theorem payload_r0 (d : Unit) : (sched (F := F) m ρ).payload (rc0 c) 0 d = (crM.view.loc ((c : Dev nD) : Thread nD τ) ↦[crM.view.set]{fullShare} (csend m ρ (peer c))) := by
  dsimp only [sched, pay]; rw [if_neg (by decide), if_neg (by decide), if_neg (by decide), if_neg (by decide), if_pos (by decide)]
theorem payload_r1 (d : Unit) : (sched (F := F) m ρ).payload (rc1 c) 0 d = (krM.view.loc ((c : Dev nD) : Thread nD τ) ↦[krM.view.set]{fullShare} (ukst m ρ (peer c))) := by
  dsimp only [sched, pay]
  rw [if_neg (by decide), if_neg (by decide), if_neg (by decide), if_neg (by decide), if_neg (by decide), if_pos (by decide)]
theorem payload_r2 (d : Unit) : (sched (F := F) m ρ).payload (rc2 c) 0 d = (vrM.view.loc ((c : Dev nD) : Thread nD τ) ↦[vrM.view.set]{fullShare} (uvst m ρ (peer c))) := by
  dsimp only [sched, pay]
  rw [if_neg (by decide), if_neg (by decide), if_neg (by decide), if_neg (by decide), if_neg (by decide), if_neg (by decide), if_pos (by decide)]

/-- The partner's cells, in terms of the device that pays them. -/
theorem payload_barP (d : Unit) : (sched (F := F) m ρ).payload (barCell (peer c)) 0 d
    = iprop((∃ f, (crM.view.loc ((c : Dev nD) : Thread nD τ) ↦[crM.view.set]{fullShare} f)) ∗ (∃ f, (krM.view.loc ((c : Dev nD) : Thread nD τ) ↦[krM.view.set]{fullShare} f)) ∗ (∃ f, (vrM.view.loc ((c : Dev nD) : Thread nD τ) ↦[vrM.view.set]{fullShare} f))
      ∗ reached ER (rc0 c) 0 ∗ reached ER (rc1 c) 0 ∗ reached ER (rc2 c) 0) := by
  rw [payload_bar, peer_peer]
theorem payload_r0P (d : Unit) : (sched (F := F) m ρ).payload (rc0 (peer c)) 0 d = (crM.view.loc (((peer c) : Dev nD) : Thread nD τ) ↦[crM.view.set]{fullShare} (csend m ρ c)) := by
  rw [payload_r0, peer_peer]
theorem payload_r1P (d : Unit) : (sched (F := F) m ρ).payload (rc1 (peer c)) 0 d = (krM.view.loc (((peer c) : Dev nD) : Thread nD τ) ↦[krM.view.set]{fullShare} (ukst m ρ c)) := by
  rw [payload_r1, peer_peer]
theorem payload_r2P (d : Unit) : (sched (F := F) m ρ).payload (rc2 (peer c)) 0 d = (vrM.view.loc (((peer c) : Dev nD) : Thread nD τ) ↦[vrM.view.set]{fullShare} (uvst m ρ c)) := by
  rw [payload_r2, peer_peer]

end Tables

/-! ## What a device owes; the levels -/

/-- The three arrivals device `c` owes its partner, -/
def O₁ (c : Dev nD) : CellTallies nD τ sig Unit := tallyAt (rc2 (peer c)) () N1 + tallyAt (rc1 (peer c)) () N1 + tallyAt (rc0 (peer c)) () N0
/-- and the signal. -/
def O₀ (c : Dev nD) : CellTallies nD τ sig Unit := O₁ c + tallyAt (barCell (peer c)) () 1

def L (g : GSem nD τ sig) : Finset Unit := if g.1.2 = .tc then {()} else ∅
/-- Barrier cells at 1, arrival cells at 2, everything else at 0. -/
def lv (g : GSem nD τ sig) (_ : Unit) : ℕ := if g.2 = .reg barS then 1 else if g.2 = .dma 10 ∨ g.2 = .dma 11 ∨ g.2 = .dma 12 then 2 else 0

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem O₁_pos {c : Dev nD} {g : GSem nD τ sig} {u : Unit} (h : 0 < O₁ c g u) : g = rc0 (peer c) ∨ g = rc1 (peer c) ∨ g = rc2 (peer c) := by
  unfold O₁ at h
  rw [Pi.add_apply, Finsupp.add_apply, Pi.add_apply, Finsupp.add_apply] at h
  by_cases h0 : 0 < (tallyAt (rc0 (peer c)) () N0 : CellTallies nD τ sig Unit) g u
  · exact .inl (tallyAt_pos h0)
  by_cases h1 : 0 < (tallyAt (rc1 (peer c)) () N1 : CellTallies nD τ sig Unit) g u
  · exact .inr (.inl (tallyAt_pos h1))
  · refine .inr (.inr (tallyAt_pos (u := u) (n := N1) ?_))
    rw [Nat.eq_zero_of_not_pos h0, Nat.eq_zero_of_not_pos h1] at h
    exact h

theorem O₀_pos {c : Dev nD} {g : GSem nD τ sig} {u : Unit} (h : 0 < O₀ c g u) :
    (g = rc0 (peer c) ∨ g = rc1 (peer c) ∨ g = rc2 (peer c)) ∨ g = barCell (peer c) := by
  unfold O₀ at h
  rw [Pi.add_apply, Finsupp.add_apply] at h
  by_cases h0 : 0 < O₁ c g u
  · exact .inl (O₁_pos h0)
  · rw [Nat.eq_zero_of_not_pos h0, Nat.zero_add] at h
    exact .inr (tallyAt_pos h)

theorem lv_bar (c : Dev nD) (u : Unit) : lv (barCell c) u = 1 := by dsimp only [lv]; exact if_pos rfl
theorem lv_recv {c : Dev nD} {g : GSem nD τ sig} (u : Unit) (h : g = rc0 c ∨ g = rc1 c ∨ g = rc2 c) : lv g u = 2 := by
  rcases h with rfl | rfl | rfl <;> (dsimp only [lv]; rw [if_neg (by decide), if_pos (by decide)])
theorem L_recv {c : Dev nD} {g : GSem nD τ sig} (u : Unit) (h : g = rc0 c ∨ g = rc1 c ∨ g = rc2 c) : u ∈ L g := by
  rcases h with rfl | rfl | rfl <;> exact Finset.mem_singleton_self _

/-- A staging wait, with everything still owed. -/
theorem mayWait_stage (c : Dev nD) (q : DmaSem sig) (hq : ¬ (SemLoc.dma q = .dma 10 ∨ SemLoc.dma q = .dma 11 ∨ SemLoc.dma q = .dma 12))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; dsimp only [lv]; rw [if_neg (fun h => by cases h), if_neg hq]) (fun g u hg => ?_)
    · rcases O₀_pos hg with h | rfl
      · exact L_recv u h
      · exact Finset.mem_singleton_self _
    · rcases O₀_pos hg with h | rfl
      · rw [lv_recv u h]; decide
      · rw [lv_bar]; decide
  · rw [MayWait_zero]; iintro -; iempintro

/-- At its barrier wait a device owes the three arrivals only. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => L_recv u (O₁_pos hg))
    (fun p hp => by rw [Finset.mem_singleton.mp hp]; dsimp only [lv]; rw [if_pos rfl])
    (fun g u hg => by rw [lv_recv u (O₁_pos hg)]; decide)

/-! ## The ghost state -/

/-- The invariants device `c`'s body opens: its own seven cells, the partner's barrier cell and arrival cells. -/
def invs (K : Dev nD × Fin 7 → ℕ) (c : Dev nD) : sProp 𝕄 :=
  iprop(cellInv ER (sched m ρ) (K (c, 0)) (barCell c)
    ∗ cellInv ER (sched m ρ) (K (c, 1)) (sc0 c) ∗ cellInv ER (sched m ρ) (K (c, 2)) (sc1 c) ∗ cellInv ER (sched m ρ) (K (c, 3)) (sc2 c)
    ∗ cellInv ER (sched m ρ) (K (c, 4)) (rc0 c) ∗ cellInv ER (sched m ρ) (K (c, 5)) (rc1 c) ∗ cellInv ER (sched m ρ) (K (c, 6)) (rc2 c)
    ∗ cellInv ER (sched m ρ) (K (peer c, 0)) (barCell (peer c))
    ∗ cellInv ER (sched m ρ) (K (peer c, 4)) (rc0 (peer c)) ∗ cellInv ER (sched m ρ) (K (peer c, 5)) (rc1 (peer c)) ∗ cellInv ER (sched m ρ) (K (peer c, 6)) (rc2 (peer c)))

instance invs_persistent (K : Dev nD × Fin 7 → ℕ) (c : Dev nD) : BI.Persistent (invs m ρ K c) := by unfold invs; infer_instance

/-- The duties device `c` pays: the partner's barrier and arrivals, its own departures. -/
def payToks (c : Dev nD) : sProp 𝕄 :=
  iprop(dutyTok ER (barCell (peer c)) 0 () ∗ dutyTok ER (sc0 c) 0 () ∗ dutyTok ER (sc1 c) 0 () ∗ dutyTok ER (sc2 c) 0 ()
    ∗ dutyTok ER (rc0 (peer c)) 0 () ∗ dutyTok ER (rc1 (peer c)) 0 () ∗ dutyTok ER (rc2 (peer c)) 0 ())

/-- Its positions at round 0 of its own cells. -/
def ats (c : Dev nD) : sProp 𝕄 :=
  iprop(atPos ER (barCell c) 0 ∅ 0 ∗ atPos ER (sc0 c) 0 ∅ 0 ∗ atPos ER (sc1 c) 0 ∅ 0 ∗ atPos ER (sc2 c) 0 ∅ 0
    ∗ atPos ER (rc0 c) 0 ∅ 0 ∗ atPos ER (rc1 c) 0 ∅ 0 ∗ atPos ER (rc2 c) 0 ∅ 0)

def marks (c : Dev nD) : sProp 𝕄 :=
  iprop(reached ER (barCell (peer c)) 0 ∗ reached ER (sc0 c) 0 ∗ reached ER (sc1 c) 0 ∗ reached ER (sc2 c) 0
    ∗ reached ER (rc0 c) 0 ∗ reached ER (rc1 c) 0 ∗ reached ER (rc2 c) 0)

def ghost (K : Dev nD × Fin 7 → ℕ) (c : Dev nD) : sProp 𝕄 := iprop(invs m ρ K c ∗ marks c ∗ ats c ∗ payToks c)

def creds (c : Dev nD) : sProp 𝕄 :=
  iprop(cred (tallyAt (barCell c) () 1) ∗ cred (tallyAt (rc0 c) () N0) ∗ cred (tallyAt (rc1 c) () N1) ∗ cred (tallyAt (rc2 c) () N1))

/-- The counters of the four local copies' cells at zero. -/
def locals0 (c : Dev nD) : sProp 𝕄 :=
  iprop(semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0)

/-- The seven cells' counters at zero, closed. -/
def closed0 (c : Dev nD) : sProp 𝕄 :=
  iprop(semVal (barCell c) 0 ∗ semVal (sc0 c) 0 ∗ semVal (sc1 c) 0 ∗ semVal (sc2 c) 0 ∗ semVal (rc0 c) 0 ∗ semVal (rc1 c) 0 ∗ semVal (rc2 c) 0)

end Cert.Mla
-- ==== Proof.Values.lean ====
/-
  What the kernel leaves in the result buffer of device `c`, as a function of the operands: the queries, the keys and
  the values as whole buffers, one head's contribution to the result, and the running sum of the contributions.
-/
module

public import proofs.«01_k».proof.Proof.Protocol
public import Idealize.ShloMosaic.Lib.VecWindow
public import Idealize.ShloMosaic.Lib.Pipeline.Value

@[expose] public section

noncomputable section

namespace Cert.Mla

open Cert.KernelIdeal Cert.KernelIdeal.Gen
open Idealize.ShloMosaic Idealize.ShloMosaic.TcCoe
open Idealize.SL Idealize.SL.RA Idealize.SL.BI

variable {F : FTy → Type} [FloatOps F]

/-- Columns `256 j` to `256 j + 255` of the query weights; -/
def wqBlk (wq : FVec F S2048x2048 .f32) (j : ℕ) (hj : j < 8) : FVec F S2048x256 .f32 :=
  VecWindow.window wq ![0, 256 * j] S2048x256.size (fun a => by
    fin_cases a
    · show 0 + 2048 ≤ 2048; omega
    · show 256 * j + 256 ≤ 2048; omega)
/-- rows `128 h` to `128 h + 127` of the output weights. -/
def woBlk (wo : FVec F S2048x2048 .f32) (h : ℕ) (hh : h < 16) : FVec F S128x2048 .f32 :=
  VecWindow.window wo ![128 * h, 0] S128x2048.size (fun a => by
    fin_cases a
    · show 128 * h + 128 ≤ 2048; omega
    · show 0 + 2048 ≤ 2048; omega)
/-- Columns `128 h` to `128 h + 127`: the part of head `h`. -/
def headCols (b : FVec F S1024x2048 .bf16) (h : ℕ) (hh : h < 16) : FVec F S1024x128 .bf16 :=
  VecWindow.window b ![0, 128 * h] S1024x128.size (fun a => by
    fin_cases a
    · show 0 + 1024 ≤ 1024; omega
    · show 128 * h + 128 ≤ 2048; omega)

theorem slices_rope (h : ℕ) (hh : h < 16) : S1024x512.Slices ![0, 32 * h] S1024x32 :=
  ⟨rfl, fun a => by
    fin_cases a
    · show 0 + 1024 ≤ 1024; omega
    · show 32 * h + 32 ≤ 512; omega⟩

/-- A block of the queries: the rows times a block of the query weights. -/
def qPart (x : FVec F S1024x2048 .bf16) (w : FVec F S2048x256 .f32) : FVec F S1024x256 .bf16 :=
  truncf .bf16 (matmul dot_S1024x2048_S2048x256_S1024x256_1_0_0_1_n_n none x (truncf .bf16 w bitsLt_bf16_f32)
    (constant S1024x256 .f32 0x00000000#32)) bitsLt_bf16_f32

/-- The queries: column `y` comes from block `y / 256`. -/
def qAll (x : FVec F S1024x2048 .bf16) (wq : FVec F S2048x2048 .f32) : FVec F S1024x2048 .bf16 := fun i =>
  qPart x (wqBlk wq ((i 1).val / 256) (by have := (i 1).isLt; have e : S1024x2048.size 1 = 2048 := rfl; omega))
    (fun a => match a with
      | 0 => i 0
      | 1 => ⟨(i 1).val % 256, Nat.mod_lt _ (by decide)⟩)

/-- One head: scores, their exponentials, the weighted values over the sum, times the head's output weights. -/
def headO (qr : FVec F S1024x32 .bf16) (kr : FVec F S1024x32 .bf16) (q k v : FVec F S1024x128 .bf16) (w : FVec F S128x2048 .f32) :
    FVec F S1024x2048 .f32 :=
  have s : FVec F S1024x1024 .f32 := mulf
    (addf (matmul dot_S1024x128_S1024x128_S1024x1024_1_1_0_0_n_n none q k (constant S1024x1024 .f32 0x00000000#32))
      (matmul dot_S1024x32_S1024x32_S1024x1024_1_1_0_0_n_n none qr kr (constant S1024x1024 .f32 0x00000000#32)))
    (broadcast S1024x1024 (Scalar.ofBits .f32 0x3DA1E89B#32 : F .f32))
  have p : FVec F S1024x1024 .f32 := exp s
  have d : FVec F S1024x1 .f32 := shapeCast S1024x1 (multiReduction .add [1] S1024 p 0x00000000#32 reduces_S1024x1024_S1024 (.inl rfl) rfl)
    shapeCasts_S1024_S1024x1
  have o : FVec F S1024x128 .f32 := matmul dot_S1024x1024_S1024x128_S1024x128_1_0_0_1_n_n none (truncf .bf16 p bitsLt_bf16_f32) v
    (constant S1024x128 .f32 0x00000000#32)
  matmul dot_S1024x128_S128x2048_S1024x2048_1_0_0_1_n_n none
    (truncf .bf16 (divf o (broadcastTo S1024x128 d broadcasts_S1024x1_S1024x128)) bitsLt_bf16_f32)
    (truncf .bf16 w bitsLt_bf16_f32) (constant S1024x2048 .f32 0x00000000#32)

/-- The operands a device's heads read: rotary queries and keys, queries, keys, values, output weights. -/
structure Ops (F : FTy → Type) where
  qr : FVec F S1024x512 .bf16
  kr : FVec F S1024x32 .bf16
  q : FVec F S1024x2048 .bf16
  k : FVec F S1024x2048 .bf16
  v : FVec F S1024x2048 .bf16
  wo : FVec F S2048x2048 .f32

/-- The contribution of head `h`, -/
def headAt (o : Ops F) (h : ℕ) (hh : h < 16) : FVec F S1024x2048 .f32 :=
  headO (extractStridedSlice S1024x32 ![0, 32 * h] o.qr (slices_rope h hh)) o.kr (headCols o.q h hh) (headCols o.k h hh) (headCols o.v h hh)
    (woBlk o.wo h hh)

/-- and the sum of the contributions of heads `0` to `h`, as stored. -/
def outAcc (o : Ops F) : (h : ℕ) → h < 16 → FVec F S1x1024x2048 .f32
  | 0, hh => shapeCast S1x1024x2048 (headAt o 0 hh) shapeCasts_S1024x2048_S1x1024x2048
  | h + 1, hh => shapeCast S1x1024x2048
      (addf (shapeCast S1024x2048 (outAcc o h (Nat.lt_of_succ_lt hh)) shapeCasts_S1x1024x2048_S1024x2048) (headAt o (h + 1) hh))
      shapeCasts_S1024x2048_S1x1024x2048

variable (m : (ℓ : Loc nD τ sig) → Buf (Elt F) ℓ) (ρ : Dev nD → PrngReg)

/-- The operands on device `c`: keys and values add the device's own product to the one of what it received. -/
def opsOf (c : Dev nD) (wq wo : FVec F S2048x2048 .f32) : Ops F where
  qr := k0_pay14 (k0_pay2 (xst m ρ c)) (k0_pay13 (wqrst m ρ c)) (constant S1024x512 .f32 0x00000000#32)
  kr := k0_pay15 (k0_pay2 (xst m ρ c)) (wkrst m ρ c)
  q := qAll (k0_pay2 (xst m ρ c)) wq
  k := k0_pay18 (k0_pay16 (csend m ρ c) (ukst m ρ c)) (csend m ρ (peer c)) (ukst m ρ (peer c))
  v := k0_pay19 (k0_pay17 (csend m ρ c) (uvst m ρ c)) (csend m ρ (peer c)) (uvst m ρ (peer c))
  wo := wo

/-- The result buffer of device `c`. -/
def outAll (c : Dev nD) (wq wo : FVec F S2048x2048 .f32) : FVec F S1x1024x2048 .f32 := outAcc (opsOf m ρ c wq wo) 15 (by decide)

end Cert.Mla
-- ==== Proof.Slots.lean ====
/-
  Reads of the buffers the kernel fills piece by piece: a load of a slot of a staging buffer after a copy into that
  slot reads the copied block; a load of the queries after their eight stores reads the queries.
-/
module

public import proofs.«01_k».proof.Proof.Values
public import Idealize.ShloMosaic.Lib.ValueLayout

@[expose] public section

noncomputable section

namespace Cert.Mla

open Cert.KernelIdeal Cert.KernelIdeal.Gen
open Idealize.ShloMosaic Idealize.ShloMosaic.TcCoe
open Idealize.SL Idealize.SL.RA Idealize.SL.BI

variable {F : FTy → Type} [FloatOps F]

/-- The two slots of each staging buffer, as the kernel slices them. -/
abbrev wq0 : Memref sig .tc .vmem S2048x256 .f32 :=
  (wqSt.slice (Rect.unit (s := S2x2048x256) ![0, 0, 0] S1x2048x256.size inb_S2x2048x256_S1x2048x256_0_0_0) (fun _ => rfl)).squeeze S2048x256 squeezes_S1x2048x256_S2048x256
abbrev wq1 : Memref sig .tc .vmem S2048x256 .f32 :=
  (wqSt.slice (Rect.unit (s := S2x2048x256) ![1, 0, 0] S1x2048x256.size inb_S2x2048x256_S1x2048x256_1_0_0) (fun _ => rfl)).squeeze S2048x256 squeezes_S1x2048x256_S2048x256
abbrev wo0 : Memref sig .tc .vmem S128x2048 .f32 :=
  (woSt.slice (Rect.unit (s := S2x128x2048) ![0, 0, 0] S1x128x2048.size inb_S2x128x2048_S1x128x2048_0_0_0) (fun _ => rfl)).squeeze S128x2048 squeezes_S1x128x2048_S128x2048
abbrev wo1 : Memref sig .tc .vmem S128x2048 .f32 :=
  (woSt.slice (Rect.unit (s := S2x128x2048) ![1, 0, 0] S1x128x2048.size inb_S2x128x2048_S1x128x2048_1_0_0) (fun _ => rfl)).squeeze S128x2048 squeezes_S1x128x2048_S128x2048

/-- A view just written whole reads the block written. -/
theorem read_whole {sp : Space} {s : Shape} {e : EltTy} (v : View sig .tc sp s e) (f : v.ty.Contents (Elt F)) (d : s.Idx → Elt F e)
    (L : List (View.Piece (Elt F) s e)) : v.read (Elt F) (v.writes (Elt F) f (⟨Rect.whole s, d⟩ :: L)) = d := by
  funext y
  have h := View.read_writes_cons_emb (Val := Elt F) (v := v) (f := f) (Rect.whole s) d L y
  simpa using h

theorem wq0_read (g : wq0.view.ty.Contents (Elt F)) (d : FVec F S2048x256 .f32) (L : List (View.Piece (Elt F) S2048x256 .f32)) :
    shapeCast S2048x256 (View.readAt (Elt F) (Memref.whole cc0_scratch7).view
      (Rect.unit (s := S2x2048x256) ![0, 0, 0] S1x2048x256.size inb_S2x2048x256_S1x2048x256_0_0_0).toLoadRect
      (wq0.view.writes (Elt F) g (⟨Rect.whole S2048x256, d⟩ :: L))) shapeCasts_S1x2048x256_S2048x256 = d :=
  read_whole wq0.view g d L
theorem wq1_read (g : wq1.view.ty.Contents (Elt F)) (d : FVec F S2048x256 .f32) (L : List (View.Piece (Elt F) S2048x256 .f32)) :
    shapeCast S2048x256 (View.readAt (Elt F) (Memref.whole cc0_scratch7).view
      (Rect.unit (s := S2x2048x256) ![1, 0, 0] S1x2048x256.size inb_S2x2048x256_S1x2048x256_1_0_0).toLoadRect
      (wq1.view.writes (Elt F) g (⟨Rect.whole S2048x256, d⟩ :: L))) shapeCasts_S1x2048x256_S2048x256 = d :=
  read_whole wq1.view g d L
theorem wo0_read (g : wo0.view.ty.Contents (Elt F)) (d : FVec F S128x2048 .f32) (L : List (View.Piece (Elt F) S128x2048 .f32)) :
    shapeCast S128x2048 (View.readAt (Elt F) (Memref.whole cc0_scratch8).view
      (Rect.unit (s := S2x128x2048) ![0, 0, 0] S1x128x2048.size inb_S2x128x2048_S1x128x2048_0_0_0).toLoadRect
      (wo0.view.writes (Elt F) g (⟨Rect.whole S128x2048, d⟩ :: L))) shapeCasts_S1x128x2048_S128x2048 = d :=
  read_whole wo0.view g d L
theorem wo1_read (g : wo1.view.ty.Contents (Elt F)) (d : FVec F S128x2048 .f32) (L : List (View.Piece (Elt F) S128x2048 .f32)) :
    shapeCast S128x2048 (View.readAt (Elt F) (Memref.whole cc0_scratch8).view
      (Rect.unit (s := S2x128x2048) ![1, 0, 0] S1x128x2048.size inb_S2x128x2048_S1x128x2048_1_0_0).toLoadRect
      (wo1.view.writes (Elt F) g (⟨Rect.whole S128x2048, d⟩ :: L))) shapeCasts_S1x128x2048_S128x2048 = d :=
  read_whole wo1.view g d L

/-- The store of block `j` of the queries, -/
def qPiece (p : (j : ℕ) → j < 8 → FVec F S1024x256 .bf16) (j : ℕ) (hj : j < 8) : View.Piece (Elt F) S1024x2048 .bf16 :=
  ⟨Rect.unit ![0, 256 * j] S1024x256.size (fun a => by
    fin_cases a
    · show 0 + 1024 ≤ 1024; omega
    · show 256 * j + 256 ≤ 2048; omega), p j hj⟩
/-- and the eight of them, last first. -/
def qPieces (p : (j : ℕ) → j < 8 → FVec F S1024x256 .bf16) : List (View.Piece (Elt F) S1024x2048 .bf16) :=
  [qPiece p 7 (by decide), qPiece p 6 (by decide), qPiece p 5 (by decide), qPiece p 4 (by decide),
   qPiece p 3 (by decide), qPiece p 2 (by decide), qPiece p 1 (by decide), qPiece p 0 (by decide)]

/-- A function of a column block and of an index in it, at an index of block `j`. -/
theorem qAll_at (x : FVec F S1024x2048 .bf16) (wq : FVec F S2048x2048 .f32) (j : ℕ) (hj : j < 8) (y : S1024x256.Idx) (i : S1024x2048.Idx)
    (h0 : (i 0).val = (y 0).val) (h1 : (i 1).val = 256 * j + (y 1).val) : qAll x wq i = qPart x (wqBlk wq j hj) y := by
  have hy : (y 1).val < 256 := (y 1).isLt
  have e : ∀ (j' : ℕ) (hj' : j' < 8) (y' : S1024x256.Idx), j' = j → y' = y → qPart x (wqBlk wq j' hj') y' = qPart x (wqBlk wq j hj) y := by
    intro j' hj' y' a b; subst a; subst b; rfl
  refine e _ _ _ (by omega) (funext fun a => ?_)
  fin_cases a
  · exact Fin.ext h0
  · exact Fin.ext (by show (i 1).val % 256 = (y 1).val; omega)

theorem qPiece_agree (x : FVec F S1024x2048 .bf16) (wq : FVec F S2048x2048 .f32) (j : ℕ) (hj : j < 8)
    (z : (qPiece (fun j hj => qPart x (wqBlk wq j hj)) j hj).1.shape.Idx) :
    (qPiece (fun j hj => qPart x (wqBlk wq j hj)) j hj).2 z = qAll x wq ((qPiece (fun j hj => qPart x (wqBlk wq j hj)) j hj).1.emb z) :=
  (qAll_at x wq j hj z _ (by show 0 + 1 * (z 0).val = (z 0).val; omega) (by show 256 * j + 1 * (z 1).val = 256 * j + (z 1).val; omega)).symm

theorem qPiece_mem (p : (j : ℕ) → j < 8 → FVec F S1024x256 .bf16) (j : ℕ) (hj : j < 8) : qPiece p j hj ∈ qPieces p := by
  have h : j = 7 ∨ j = 6 ∨ j = 5 ∨ j = 4 ∨ j = 3 ∨ j = 2 ∨ j = 1 ∨ j = 0 := by omega
  unfold qPieces
  simp only [List.mem_cons, List.not_mem_nil, or_false]
  rcases h with rfl | rfl | rfl | rfl | rfl | rfl | rfl | rfl
  · exact .inl rfl
  · exact .inr (.inl rfl)
  · exact .inr (.inr (.inl rfl))
  · exact .inr (.inr (.inr (.inl rfl)))
  · exact .inr (.inr (.inr (.inr (.inl rfl))))
  · exact .inr (.inr (.inr (.inr (.inr (.inl rfl)))))
  · exact .inr (.inr (.inr (.inr (.inr (.inr (.inl rfl))))))
  · exact .inr (.inr (.inr (.inr (.inr (.inr (.inr rfl))))))

theorem q_read (x : FVec F S1024x2048 .bf16) (wq : FVec F S2048x2048 .f32) (f : (qM.view).ty.Contents (Elt F)) :
    qM.view.read (Elt F) (qM.view.writes (Elt F) f (qPieces fun j hj => qPart x (wqBlk wq j hj))) = qAll x wq := by
  funext y
  refine View.read_writes_apply_of_pieces qM.view f (qAll x wq) (qPieces fun j hj => qPart x (wqBlk wq j hj)) ?_ y ?_
  · intro p hp
    simp only [qPieces, List.mem_cons, List.not_mem_nil, or_false] at hp
    rcases hp with rfl | rfl | rfl | rfl | rfl | rfl | rfl | rfl <;> exact qPiece_agree x wq _ _
  · have hy0 : (y 0).val < 1024 := (y 0).isLt
    have hy1 : (y 1).val < 2048 := (y 1).isLt
    refine ⟨_, qPiece_mem _ ((y 1).val / 256) (by omega), ?_⟩
    dsimp only [qPiece]
    rw [Rect.mem_set_unit]
    intro a
    fin_cases a
    · show 0 ≤ (y 0).val ∧ (y 0).val < 0 + 1024; omega
    · show 256 * ((y 1).val / 256) ≤ (y 1).val ∧ (y 1).val < 256 * ((y 1).val / 256) + 256; omega

end Cert.Mla
-- ==== Proof.Body.lean ====
module

public import proofs.«01_k».proof.Proof.Slots
public import Idealize.ShloMosaic.Lib.Ring
public import Idealize.ShloMosaic.Lib.VecWindow

@[expose] public section

noncomputable section

namespace Cert.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_s0 duties_s1 duties_s2 duties_r0 duties_r1 duties_r2
  amount_bar amount_s0 amount_s1 amount_s2 amount_r0 amount_r1 amount_r2
  expect_bar expect_s0 expect_s1 expect_s2 expect_r0 expect_r1 expect_r2
  payload_bar payload_s0 payload_s1 payload_s2 payload_r0 payload_r1 payload_r2
attribute [local sl_rounds 2000] payload_barP payload_r0P payload_r1P payload_r2P

/-- The kernel on the buffers the pipeline calls it with. -/
abbrev bodyAt : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole main_arg4) (Memref.isWhole_whole _) (Memref.whole cc0_stg4_0) (Memref.isWhole_whole _)
    (Memref.whole cc0_stg5_0) (Memref.isWhole_whole _) (Memref.whole main_arg7) (Memref.isWhole_whole _) (Memref.whole cc0_stg6_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scratch11 cc0_scratch12

/-! A read of all of a buffer is its contents, a write of all of it the block. -/

theorem ent_of_eq {P Q : sProp 𝕄} (e : P = Q) : P ⊢ Q := e ▸ .rfl

theorem wr_all (b : Ref sig .tc) {off : Fin b.ty.shape.rank → Nat} (h : off = fun _ => 0) (inb : ∀ a, off a + b.ty.shape.size a ≤ b.ty.shape.size a)
    (f w : b.ty.Contents (Elt F)) (L : List (View.Piece (Elt F) b.ty.shape b.ty.elt)) :
    (Memref.whole b : Memref sig .tc _ _ _).view.writes (Elt F) f (⟨Rect.unit off b.ty.shape.size inb, w⟩ :: L) = w :=
  Memref.write_access_unit_zero_univ (Elt F) b h inb _ w

/-- The compressed rows as stored, in two halves of the share. -/
theorem cs_halves (c : Dev nD) (f : Buf (Elt F) (csM.view.loc (c : Thread nD τ))) :
    pt c csM fullShare (csM.view.writes (Elt F) f [⟨Rect.unit ![0, 0] S1024x128.size inb_S1024x128_S1024x128_0_0,
      k0_pay3 (xM.view.readAt (Elt F) (Rect.unit ![0, 0, 0] S1x1024x2048.size inb_S1x1024x2048_S1x1024x2048_0_0_0).toLoadRect (xst m ρ c))
        (wdM.view.readAt (Elt F) (Rect.unit ![0, 0] S2048x128.size inb_S2048x128_S2048x128_0_0).toLoadRect (wdst m ρ c))⟩])
      ⊢ iprop((csM.view.loc (c : Thread nD τ) ↦[csM.view.set]{fullShare.left} (csend m ρ c)) ∗ (csM.view.loc (c : Thread nD τ) ↦[csM.view.set]{fullShare.right} (csend m ρ c))) := by
  have h1 := wr_all (F := F) cc0_scratch0 (off := ![0, 0]) (by decide) inb_S1024x128_S1024x128_0_0 f (csend m ρ c) []
  have h2 := Memref.readAt_unit_zero (Elt F) cc0_stg0_0 (off := ![0, 0, 0]) (by decide) inb_S1x1024x2048_S1x1024x2048_0_0_0 (xst m ρ c)
  have h3 := Memref.readAt_unit_zero (Elt F) cc0_stg1_0 (off := ![0, 0]) (by decide) inb_S2048x128_S2048x128_0_0 (wdst m ρ c)
  rw [show k0_pay3 (xM.view.readAt (Elt F) (Rect.unit ![0, 0, 0] S1x1024x2048.size inb_S1x1024x2048_S1x1024x2048_0_0_0).toLoadRect (xst m ρ c))
        (wdM.view.readAt (Elt F) (Rect.unit ![0, 0] S2048x128.size inb_S2048x128_S2048x128_0_0).toLoadRect (wdst m ρ c)) = csend m ρ c from
      congrArg₂ k0_pay3 h2 h3]
  refine (ent_of_eq (congrArg (fun g => pt c csM fullShare g) h1)).trans ?_
  exact (pointsTo_share (PosShare.mem_left_op_right fullShare)).1

/-! Loads of whole buffers, and of a part of a buffer whose stores are known. -/

theorem ld_x (c : Dev nD) : xM.view.readAt (Elt F) (Rect.unit ![0, 0, 0] S1x1024x2048.size inb_S1x1024x2048_S1x1024x2048_0_0_0).toLoadRect (xst m ρ c) = xst m ρ c :=
  Memref.readAt_unit_zero (Elt F) cc0_stg0_0 (off := ![0, 0, 0]) (by decide) _ _
theorem ld_uk (c : Dev nD) : ukM.view.readAt (Elt F) (Rect.unit ![0, 0] S128x2048.size inb_S128x2048_S128x2048_0_0).toLoadRect (ukst m ρ c) = ukst m ρ c :=
  Memref.readAt_unit_zero (Elt F) cc0_stg2_0 (off := ![0, 0]) (by decide) _ _
theorem ld_uv (c : Dev nD) : uvM.view.readAt (Elt F) (Rect.unit ![0, 0] S128x2048.size inb_S128x2048_S128x2048_0_0).toLoadRect (uvst m ρ c) = uvst m ρ c :=
  Memref.readAt_unit_zero (Elt F) cc0_stg3_0 (off := ![0, 0]) (by decide) _ _
theorem ld_wqr (c : Dev nD) : wqrM.view.readAt (Elt F) (Rect.unit ![0, 0] S2048x512.size inb_S2048x512_S2048x512_0_0).toLoadRect (wqrst m ρ c) = wqrst m ρ c :=
  Memref.readAt_unit_zero (Elt F) cc0_stg4_0 (off := ![0, 0]) (by decide) _ _
theorem ld_wkr (c : Dev nD) : wkrM.view.readAt (Elt F) (Rect.unit ![0, 0] S2048x32.size inb_S2048x32_S2048x32_0_0).toLoadRect (wkrst m ρ c) = wkrst m ρ c :=
  Memref.readAt_unit_zero (Elt F) cc0_stg5_0 (off := ![0, 0]) (by decide) _ _
theorem ld_cs (c : Dev nD) : csM.view.readAt (Elt F) (Rect.unit ![0, 0] S1024x128.size inb_S1024x128_S1024x128_0_0).toLoadRect (csend m ρ c) = csend m ρ c :=
  Memref.readAt_unit_zero (Elt F) cc0_scratch0 (off := ![0, 0]) (by decide) _ _
theorem ld_cr (c : Dev nD) : crM.view.readAt (Elt F) (Rect.unit ![0, 0] S1024x128.size inb_S1024x128_S1024x128_0_0).toLoadRect (csend m ρ c) = csend m ρ c :=
  Memref.readAt_unit_zero (Elt F) cc0_scratch1 (off := ![0, 0]) (by decide) _ _
theorem ld_kr (c : Dev nD) : krM.view.readAt (Elt F) (Rect.unit ![0, 0] S128x2048.size inb_S128x2048_S128x2048_0_0).toLoadRect (ukst m ρ c) = ukst m ρ c :=
  Memref.readAt_unit_zero (Elt F) cc0_scratch2 (off := ![0, 0]) (by decide) _ _
theorem ld_vr (c : Dev nD) : vrM.view.readAt (Elt F) (Rect.unit ![0, 0] S128x2048.size inb_S128x2048_S128x2048_0_0).toLoadRect (uvst m ρ c) = uvst m ρ c :=
  Memref.readAt_unit_zero (Elt F) cc0_scratch3 (off := ![0, 0]) (by decide) _ _

theorem cov {sp : Space} {s : Shape} {e : EltTy} (v : View sig .tc sp s e) (w : s.Idx → Elt F e) (L : List (View.Piece (Elt F) s e)) (off size : Fin s.rank → ℕ)
    (inb : ∀ a, off a + size a ≤ s.size a) (h : v.read (Elt F) (v.writes (Elt F) v.junk L) = w) :
    v.readCov L (Rect.unit off size inb).toLoadRect = VecWindow.window w off size inb := by
  subst h; rfl

/-- A block of the queries, from the slot as loaded. -/
theorem qPart_of (x : FVec F S1024x2048 .bf16) (v : FVec F S1x2048x256 .f32) {d : FVec F S2048x256 .f32}
    (h : shapeCast S2048x256 v shapeCasts_S1x2048x256_S2048x256 = d) : k0_pay4 x v = qPart x d := by
  subst h; exact shapeCast_self _ _

/-- What the kernel stores after head `h ≥ 1`, from what it loads. -/
def storeOf (h : ℕ) (hh : h < 16) (qr : FVec F S1024x512 .bf16) (kr : FVec F S1024x32 .bf16) (q k v : FVec F S1024x128 .bf16)
    (w : FVec F S1x128x2048 .f32) (prev : FVec F S1x1024x2048 .f32) : FVec F S1x1024x2048 .f32 :=
  shapeCast S1x1024x2048 (addf (shapeCast S1024x2048 prev shapeCasts_S1x1024x2048_S1024x2048)
      (headO (extractStridedSlice S1024x32 ![0, 32 * h] qr (slices_rope h hh)) kr q k v (shapeCast S128x2048 w shapeCasts_S1x128x2048_S128x2048)))
    shapeCasts_S1024x2048_S1x1024x2048

theorem storeOf_eq (o : Ops F) (h : ℕ) (hh : h + 1 < 16) {q k v : FVec F S1024x128 .bf16} {w : FVec F S1x128x2048 .f32}
    {prev : FVec F S1x1024x2048 .f32} (eq : q = headCols o.q (h + 1) hh) (ek : k = headCols o.k (h + 1) hh) (ev : v = headCols o.v (h + 1) hh)
    (ew : shapeCast S128x2048 w shapeCasts_S1x128x2048_S128x2048 = woBlk o.wo (h + 1) hh) (ep : prev = outAcc o h (Nat.lt_of_succ_lt hh)) :
    storeOf (h + 1) hh o.qr o.kr q k v w prev = outAcc o (h + 1) hh := by
  subst eq; subst ek; subst ev; subst ep
  unfold storeOf; rw [ew]; rfl

theorem first_eq (o : Ops F) {q k v : FVec F S1024x128 .bf16} {w : FVec F S1x128x2048 .f32}
    (eq : q = headCols o.q 0 (by decide)) (ek : k = headCols o.k 0 (by decide)) (ev : v = headCols o.v 0 (by decide))
    (ew : shapeCast S128x2048 w shapeCasts_S1x128x2048_S128x2048 = woBlk o.wo 0 (by decide)) :
    k0_pay20 o.qr o.kr q k v w = outAcc o 0 (by decide) := by
  subst eq; subst ek; subst ev
  show shapeCast S1x1024x2048 (headO _ _ _ _ _ (shapeCast S128x2048 w shapeCasts_S1x128x2048_S128x2048)) _ = _
  rw [ew]; rfl

/-- The result buffer once its last store is known. -/
theorem out_done (c : Dev nD) (f w w' : FVec F S1x1024x2048 .f32) (L : List (View.Piece (Elt F) S1x1024x2048 .f32)) (h : w = w') :
    pt c outM fullShare (outM.view.writes (Elt F) f (⟨Rect.unit ![0, 0, 0] S1x1024x2048.size inb_S1x1024x2048_S1x1024x2048_0_0_0, w⟩ :: L))
      ⊢ pt c outM fullShare w' := by
  subst h
  exact ent_of_eq (congrArg (fun g => pt c outM fullShare g) (wr_all (F := F) cc0_stg6_0 (off := ![0, 0, 0]) (by decide) _ f w L))

/-- The operands of device `c` in its buffers. -/
def argPts (c : Dev nD) (wq : Buf (Elt F) (wqM.view.loc (c : Thread nD τ))) (wo : Buf (Elt F) (woM.view.loc (c : Thread nD τ))) : sProp 𝕄 :=
  iprop(pt c xM fullShare (xst m ρ c) ∗ pt c wdM fullShare (wdst m ρ c) ∗ pt c ukM fullShare (ukst m ρ c) ∗ pt c uvM fullShare (uvst m ρ c)
    ∗ pt c wqrM fullShare (wqrst m ρ c) ∗ pt c wkrM fullShare (wkrst m ρ c) ∗ pt c wqM fullShare wq ∗ pt c woM fullShare wo)

/-- The kernel's own buffers, whatever they hold. -/
def scratchPts (c : Dev nD) : sProp 𝕄 :=
  iprop((∃ f, pt c csM fullShare f) ∗ (∃ f, pt c crM fullShare f) ∗ (∃ f, pt c krM fullShare f) ∗ (∃ f, pt c vrM fullShare f)
    ∗ (∃ f, pt c qM fullShare f) ∗ (∃ f, pt c kM fullShare f) ∗ (∃ f, pt c vM fullShare f)
    ∗ (∃ f, pt c wq0 fullShare f) ∗ (∃ f, pt c wq1 fullShare f) ∗ (∃ f, pt c wo0 fullShare f) ∗ (∃ f, pt c wo1 fullShare f))

/-- What the body leaves: nothing owed, its semaphores at zero, the operands as they were, the result. -/
def post1 (c : Dev nD) (wq : Buf (Elt F) (wqM.view.loc (c : Thread nD τ))) (wo : Buf (Elt F) (woM.view.loc (c : Thread nD τ))) : sProp 𝕄 :=
  iprop((∃ W, owes (c : Thread nD τ) 0 W) ∗ locals0 c ∗ closed0 c ∗ argPts m ρ c wq wo ∗ pt c outM fullShare (outAll m ρ c wq wo) ∗ scratchPts c)

variable (K : Dev nD × Fin 7 → ℕ)

set_option maxHeartbeats 40000000 in
/-- The body on device `c`, at any device, from any contents of the scratch buffers. -/
theorem run1 (c : Dev nD) (W : Waits sig Unit) (Kt : PUnit → sProp 𝕄)
    (wq : Buf (Elt F) (wqM.view.loc (c : Thread nD τ))) (wo : Buf (Elt F) (woM.view.loc (c : Thread nD τ)))
    (f0 : Buf (Elt F) (outM.view.loc (c : Thread nD τ))) :
    iprop(ghost m ρ K c ∗ creds c ∗ levAts L lv ∗ owes (c : Thread nD τ) (O₀ c) W ∗ locals0 c
      ∗ argPts m ρ c wq wo ∗ pt c outM fullShare f0 ∗ scratchPts c ∗ (post1 m ρ c wq wo -∗ Kt PUnit.unit))
      ⊢ wp frame (wpE (defs₀ (F := F)) Variants.none c none) Set.univ (bodyAt (F := F)) Kt := by
  unfold bodyAt
  simp only [cc0_body_eq_skeleton]; unfold cc0_body_skel
  unfold ghost invs marks ats payToks creds locals0 argPts scratchPts
  unfold pt
  iintro ⟨⟨⟨#HIb, #HIs0, #HIs1, #HIs2, #HIr0, #HIr1, #HIr2, #HIbP, #HIr0P, #HIr1P, #HIr2P⟩, ⟨#HmbP, #Hms0, #Hms1, #Hms2, #Hmr0, #Hmr1, #Hmr2⟩,
      ⟨Hab, Has0, Has1, Has2, Har0, Har1, Har2⟩, ⟨HtbP, Hts0, Hts1, Hts2, Htr0, Htr1, Htr2⟩⟩,
    ⟨Hcb, Hcr0, Hcr1, Hcr2⟩, #Hlev, HO, ⟨Hz13, Hz14, Hz15, Hz16⟩,
    ⟨Hx, Hwd, Huk, Huv, Hwqr, Hwkr, Hwq, Hwo⟩, Hout,
    ⟨⟨%f1, Hcs⟩, ⟨%f2, Hcr⟩, ⟨%f3, Hkr⟩, ⟨%f4, Hvr⟩, ⟨%f5, Hq⟩, ⟨%f6, Hk⟩, ⟨%f7, Hv⟩, ⟨%f8, Hwq0⟩, ⟨%f9, Hwq1⟩, ⟨%f10, Hwo0⟩, ⟨%f11, Hwo1⟩⟩, HK⟩
  ihave Huk2 := (pointsTo_share (PosShare.mem_left_op_right fullShare)).1 $$ Huk
  icases Huk2 with ⟨HukL, HukR⟩
  have hd1 := dev1_eq c
  have hd2 := dev2_eq c
  have hd3 := dev3_eq c
  have hd4 := dev4_eq c
  have hmw := mayWait_bar (F := F) c
  (set_option sl_exec.stopBefore "k0_part2" in sl_exec)
  ihave Hcs2 := cs_halves m ρ c f1 $$ Hcs
  icases Hcs2 with ⟨HcsL, HcsR⟩
  ihave Huv2 := (pointsTo_share (PosShare.mem_left_op_right fullShare)).1 $$ Huv
  icases Huv2 with ⟨HuvL, HuvR⟩
  unfold O₀ O₁
  set_option sl_exec.stepHeartbeats 1500000 in
  sl_exec
  have hq : run1.sl.Hq_8 m ρ c wq = qPieces fun j hj => qPart (k0_pay2 (xst m ρ c)) (wqBlk wq j hj) := by
    have hr : run1.sl.r m ρ c = k0_pay2 (xst m ρ c) := congrArg k0_pay2 (ld_x m ρ c)
    have e0 : k0_pay4 (k0_pay2 (xst m ρ c)) (run1.sl.v71 c wq) = qPart (k0_pay2 (xst m ρ c)) (wqBlk wq 0 (by decide)) := qPart_of _ (run1.sl.v71 c wq) (wq0_read _ _ _)
    have e1 : k0_pay5 (k0_pay2 (xst m ρ c)) (run1.sl.v89 c wq) = qPart (k0_pay2 (xst m ρ c)) (wqBlk wq 1 (by decide)) := qPart_of _ (run1.sl.v89 c wq) (wq1_read _ _ _)
    have e2 : k0_pay6 (k0_pay2 (xst m ρ c)) (run1.sl.v107 c wq) = qPart (k0_pay2 (xst m ρ c)) (wqBlk wq 2 (by decide)) := qPart_of _ (run1.sl.v107 c wq) (wq0_read _ _ _)
    have e3 : k0_pay7 (k0_pay2 (xst m ρ c)) (run1.sl.v125 c wq) = qPart (k0_pay2 (xst m ρ c)) (wqBlk wq 3 (by decide)) := qPart_of _ (run1.sl.v125 c wq) (wq1_read _ _ _)
    have e4 : k0_pay9 (k0_pay2 (xst m ρ c)) (run1.sl.r_1 c wq) = qPart (k0_pay2 (xst m ρ c)) (wqBlk wq 4 (by decide)) := qPart_of _ (run1.sl.v143 c wq) (wq0_read _ _ _)
    have e5 : k0_pay10 (k0_pay2 (xst m ρ c)) (run1.sl.v161 c wq) = qPart (k0_pay2 (xst m ρ c)) (wqBlk wq 5 (by decide)) := qPart_of _ (run1.sl.v161 c wq) (wq1_read _ _ _)
    have e6 : k0_pay11 (k0_pay2 (xst m ρ c)) (run1.sl.v179 c wq) = qPart (k0_pay2 (xst m ρ c)) (wqBlk wq 6 (by decide)) := qPart_of _ (run1.sl.v179 c wq) (wq0_read _ _ _)
    have e7 : k0_pay12 (k0_pay2 (xst m ρ c)) (run1.sl.v192 c wq) = qPart (k0_pay2 (xst m ρ c)) (wqBlk wq 7 (by decide)) := qPart_of _ (run1.sl.v192 c wq) (wq1_read _ _ _)
    unfold run1.sl.Hq_8
    rw [hr, e0, e1, e2, e3, e4, e5, e6, e7]
    rfl
  have hout : k0_pay1 (run1.sl.r_18 m ρ c wq wo) (run1.sl.v854 m ρ c wq wo) = outAll m ρ c wq wo := by
    have hr : run1.sl.r m ρ c = k0_pay2 (xst m ρ c) := congrArg k0_pay2 (ld_x m ρ c)
    have hqr : run1.sl.r_3 m ρ c = (opsOf m ρ c wq wo).qr := congrArg₂ (fun a b => k0_pay14 a (k0_pay13 b) _) hr (ld_wqr m ρ c)
    have hkr : run1.sl.r_4 m ρ c = (opsOf m ρ c wq wo).kr := congrArg₂ k0_pay15 hr (ld_wkr m ρ c)
    have hQ : qM.view.read (Elt F) (qM.view.writes (Elt F) qM.view.junk (run1.sl.Hq_8 m ρ c wq)) = (opsOf m ρ c wq wo).q := by
      rw [hq]; exact q_read _ _ _
    have hk1 : run1.sl.v258 m ρ c = k0_pay16 (csend m ρ c) (ukst m ρ c) :=
      (View.readCov_full kM.view _ _ _ _).trans (congrArg₂ k0_pay16 (ld_cs m ρ c) (ld_uk m ρ c))
    have hv1 : run1.sl.v267 m ρ c = k0_pay17 (csend m ρ c) (uvst m ρ c) :=
      (View.readCov_full vM.view _ _ _ _).trans (congrArg₂ k0_pay17 (ld_cs m ρ c) (ld_uv m ρ c))
    have hK : kM.view.read (Elt F) (kM.view.writes (Elt F) kM.view.junk (run1.sl.Hk_2 m ρ c)) = (opsOf m ρ c wq wo).k := by
      refine (View.read_writes_full kM.view _ _ _ _).trans ?_
      rw [hk1, ld_kr]; exact congrArg (fun a => k0_pay18 _ a _) (ld_cr m ρ _)
    have hV : vM.view.read (Elt F) (vM.view.writes (Elt F) vM.view.junk (run1.sl.Hv_2 m ρ c)) = (opsOf m ρ c wq wo).v := by
      refine (View.read_writes_full vM.view _ _ _ _).trans ?_
      rw [hv1, ld_vr, ld_cr]; rfl
    have q := fun off inb => cov qM.view _ _ off S1024x128.size inb hQ
    have k := fun off inb => cov kM.view _ _ off S1024x128.size inb hK
    have v := fun off inb => cov vM.view _ _ off S1024x128.size inb hV
    have a0 : run1.sl.v341 m ρ c wq wo = outAcc (opsOf m ρ c wq wo) 0 (by decide) :=
      (View.readCov_full outM.view _ _ _ _).trans (by
        rw [hqr, hkr]
        exact first_eq _ (q ![0, 0] _) (k ![0, 0] _) (v ![0, 0] _) (wo0_read _ _ _))
    have a1 : run1.sl.v378 m ρ c wq wo = outAcc (opsOf m ρ c wq wo) 1 (by decide) :=
      (View.readCov_full outM.view _ _ _ _).trans (show storeOf 1 (by decide) (run1.sl.r_3 m ρ c) (run1.sl.r_4 m ρ c)
          (run1.sl.v320 m ρ c wq) (run1.sl.v321 m ρ c) (run1.sl.v322 m ρ c) (run1.sl.v337 c wo) (run1.sl.v341 m ρ c wq wo) = _ by
        rw [hqr, hkr]
        exact storeOf_eq _ 0 _ (q ![0, 128] _) (k ![0, 128] _) (v ![0, 128] _) (wo1_read _ _ _) a0)
    have a2 : run1.sl.v415 m ρ c wq wo = outAcc (opsOf m ρ c wq wo) 2 (by decide) :=
      (View.readCov_full outM.view _ _ _ _).trans (show storeOf 2 (by decide) (run1.sl.r_3 m ρ c) (run1.sl.r_4 m ρ c)
          (run1.sl.v357 m ρ c wq) (run1.sl.v358 m ρ c) (run1.sl.v359 m ρ c) (run1.sl.v374 c wo) (run1.sl.v378 m ρ c wq wo) = _ by
        rw [hqr, hkr]
        exact storeOf_eq _ 1 _ (q ![0, 256] _) (k ![0, 256] _) (v ![0, 256] _) (wo0_read _ _ _) a1)
    have a3 : run1.sl.v452 m ρ c wq wo = outAcc (opsOf m ρ c wq wo) 3 (by decide) :=
      (View.readCov_full outM.view _ _ _ _).trans (show storeOf 3 (by decide) (run1.sl.r_3 m ρ c) (run1.sl.r_4 m ρ c)
          (run1.sl.v394 m ρ c wq) (run1.sl.v395 m ρ c) (run1.sl.v396 m ρ c) (run1.sl.v411 c wo) (run1.sl.v415 m ρ c wq wo) = _ by
        rw [hqr, hkr]
        exact storeOf_eq _ 2 _ (q ![0, 384] _) (k ![0, 384] _) (v ![0, 384] _) (wo1_read _ _ _) a2)
    have a4 : run1.sl.v489 m ρ c wq wo = outAcc (opsOf m ρ c wq wo) 4 (by decide) :=
      (View.readCov_full outM.view _ _ _ _).trans (show storeOf 4 (by decide) (run1.sl.r_3 m ρ c) (run1.sl.r_4 m ρ c)
          (run1.sl.v431 m ρ c wq) (run1.sl.v432 m ρ c) (run1.sl.v433 m ρ c) (run1.sl.v448 c wo) (run1.sl.v452 m ρ c wq wo) = _ by
        rw [hqr, hkr]
        exact storeOf_eq _ 3 _ (q ![0, 512] _) (k ![0, 512] _) (v ![0, 512] _) (wo0_read _ _ _) a3)
    have a5 : run1.sl.v526 m ρ c wq wo = outAcc (opsOf m ρ c wq wo) 5 (by decide) :=
      (View.readCov_full outM.view _ _ _ _).trans (show storeOf 5 (by decide) (run1.sl.r_3 m ρ c) (run1.sl.r_4 m ρ c)
          (run1.sl.v468 m ρ c wq) (run1.sl.v469 m ρ c) (run1.sl.v470 m ρ c) (run1.sl.v485 c wo) (run1.sl.v489 m ρ c wq wo) = _ by
        rw [hqr, hkr]
        exact storeOf_eq _ 4 _ (q ![0, 640] _) (k ![0, 640] _) (v ![0, 640] _) (wo1_read _ _ _) a4)
    have a6 : run1.sl.v563 m ρ c wq wo = outAcc (opsOf m ρ c wq wo) 6 (by decide) :=
      (View.readCov_full outM.view _ _ _ _).trans (show storeOf 6 (by decide) (run1.sl.r_3 m ρ c) (run1.sl.r_4 m ρ c)
          (run1.sl.v505 m ρ c wq) (run1.sl.v506 m ρ c) (run1.sl.v507 m ρ c) (run1.sl.v522 c wo) (run1.sl.v526 m ρ c wq wo) = _ by
        rw [hqr, hkr]
        exact storeOf_eq _ 5 _ (q ![0, 768] _) (k ![0, 768] _) (v ![0, 768] _) (wo0_read _ _ _) a5)
    have a7 : run1.sl.v600 m ρ c wq wo = outAcc (opsOf m ρ c wq wo) 7 (by decide) :=
      (View.readCov_full outM.view _ _ _ _).trans (show storeOf 7 (by decide) (run1.sl.r_3 m ρ c) (run1.sl.r_4 m ρ c)
          (run1.sl.v542 m ρ c wq) (run1.sl.v543 m ρ c) (run1.sl.v544 m ρ c) (run1.sl.v559 c wo) (run1.sl.v563 m ρ c wq wo) = _ by
        rw [hqr, hkr]
        exact storeOf_eq _ 6 _ (q ![0, 896] _) (k ![0, 896] _) (v ![0, 896] _) (wo1_read _ _ _) a6)
    have a8 : run1.sl.v637 m ρ c wq wo = outAcc (opsOf m ρ c wq wo) 8 (by decide) :=
      (View.readCov_full outM.view _ _ _ _).trans (show storeOf 8 (by decide) (run1.sl.r_3 m ρ c) (run1.sl.r_4 m ρ c)
          (run1.sl.v579 m ρ c wq) (run1.sl.v580 m ρ c) (run1.sl.v581 m ρ c) (run1.sl.v596 c wo) (run1.sl.v600 m ρ c wq wo) = _ by
        rw [hqr, hkr]
        exact storeOf_eq _ 7 _ (q ![0, 1024] _) (k ![0, 1024] _) (v ![0, 1024] _) (wo0_read _ _ _) a7)
    have a9 : run1.sl.v674 m ρ c wq wo = outAcc (opsOf m ρ c wq wo) 9 (by decide) :=
      (View.readCov_full outM.view _ _ _ _).trans (show storeOf 9 (by decide) (run1.sl.r_3 m ρ c) (run1.sl.r_4 m ρ c)
          (run1.sl.v616 m ρ c wq) (run1.sl.v617 m ρ c) (run1.sl.v618 m ρ c) (run1.sl.v633 c wo) (run1.sl.v637 m ρ c wq wo) = _ by
        rw [hqr, hkr]
        exact storeOf_eq _ 8 _ (q ![0, 1152] _) (k ![0, 1152] _) (v ![0, 1152] _) (wo1_read _ _ _) a8)
    have a10 : run1.sl.v711 m ρ c wq wo = outAcc (opsOf m ρ c wq wo) 10 (by decide) :=
      (View.readCov_full outM.view _ _ _ _).trans (show storeOf 10 (by decide) (run1.sl.r_3 m ρ c) (run1.sl.r_4 m ρ c)
          (run1.sl.v653 m ρ c wq) (run1.sl.v654 m ρ c) (run1.sl.v655 m ρ c) (run1.sl.v670 c wo) (run1.sl.v674 m ρ c wq wo) = _ by
        rw [hqr, hkr]
        exact storeOf_eq _ 9 _ (q ![0, 1280] _) (k ![0, 1280] _) (v ![0, 1280] _) (wo0_read _ _ _) a9)
    have a11 : run1.sl.v748 m ρ c wq wo = outAcc (opsOf m ρ c wq wo) 11 (by decide) :=
      (View.readCov_full outM.view _ _ _ _).trans (show storeOf 11 (by decide) (run1.sl.r_3 m ρ c) (run1.sl.r_4 m ρ c)
          (run1.sl.v690 m ρ c wq) (run1.sl.v691 m ρ c) (run1.sl.v692 m ρ c) (run1.sl.v707 c wo) (run1.sl.v711 m ρ c wq wo) = _ by
        rw [hqr, hkr]
        exact storeOf_eq _ 10 _ (q ![0, 1408] _) (k ![0, 1408] _) (v ![0, 1408] _) (wo1_read _ _ _) a10)
    have a12 : run1.sl.v785 m ρ c wq wo = outAcc (opsOf m ρ c wq wo) 12 (by decide) :=
      (View.readCov_full outM.view _ _ _ _).trans (show storeOf 12 (by decide) (run1.sl.r_3 m ρ c) (run1.sl.r_4 m ρ c)
          (run1.sl.v727 m ρ c wq) (run1.sl.v728 m ρ c) (run1.sl.v729 m ρ c) (run1.sl.v744 c wo) (run1.sl.v748 m ρ c wq wo) = _ by
        rw [hqr, hkr]
        exact storeOf_eq _ 11 _ (q ![0, 1536] _) (k ![0, 1536] _) (v ![0, 1536] _) (wo0_read _ _ _) a11)
    have a13 : run1.sl.v822 m ρ c wq wo = outAcc (opsOf m ρ c wq wo) 13 (by decide) :=
      (View.readCov_full outM.view _ _ _ _).trans (show storeOf 13 (by decide) (run1.sl.r_3 m ρ c) (run1.sl.r_4 m ρ c)
          (run1.sl.v764 m ρ c wq) (run1.sl.v765 m ρ c) (run1.sl.v766 m ρ c) (run1.sl.v781 c wo) (run1.sl.v785 m ρ c wq wo) = _ by
        rw [hqr, hkr]
        exact storeOf_eq _ 12 _ (q ![0, 1664] _) (k ![0, 1664] _) (v ![0, 1664] _) (wo1_read _ _ _) a12)
    have a14 : run1.sl.v854 m ρ c wq wo = outAcc (opsOf m ρ c wq wo) 14 (by decide) :=
      (View.readCov_full outM.view _ _ _ _).trans (show storeOf 14 (by decide) (run1.sl.r_3 m ρ c) (run1.sl.r_4 m ρ c)
          (run1.sl.v801 m ρ c wq) (run1.sl.v802 m ρ c) (run1.sl.v803 m ρ c) (run1.sl.v818 c wo) (run1.sl.v822 m ρ c wq wo) = _ by
        rw [hqr, hkr]
        exact storeOf_eq _ 13 _ (q ![0, 1792] _) (k ![0, 1792] _) (v ![0, 1792] _) (wo0_read _ _ _) a13)
    show storeOf 15 (by decide) (run1.sl.r_3 m ρ c) (run1.sl.r_4 m ρ c)
          (run1.sl.v833 m ρ c wq) (run1.sl.v834 m ρ c) (run1.sl.v835 m ρ c) (run1.sl.v850 c wo) (run1.sl.v854 m ρ c wq wo) = _
    rw [hqr, hkr]
    exact storeOf_eq _ 14 _ (q ![0, 1920] _) (k ![0, 1920] _) (v ![0, 1920] _) (wo1_read _ _ _) a14
  ihave Hout2 := out_done c f0 _ _ _ hout $$ Hout
  imod (Rounds.cell_close ER (sched m ρ) (Set.mem_univ (K (c, 0))) (fun h => h) (R := 0 + 1) (duties_later m ρ (barCell c))) $$ [Hab] with Hc0
  · isplitr; · iexact HIb
    iexact Hab
  imod (Rounds.cell_close ER (sched m ρ) (Set.mem_univ (K (c, 1))) (fun h => h) (R := 0 + 1) (duties_later m ρ (sc0 c))) $$ [Has0] with Hc1
  · isplitr; · iexact HIs0
    iexact Has0
  imod (Rounds.cell_close ER (sched m ρ) (Set.mem_univ (K (c, 2))) (fun h => h) (R := 0 + 1) (duties_later m ρ (sc1 c))) $$ [Has1] with Hc2
  · isplitr; · iexact HIs1
    iexact Has1
  imod (Rounds.cell_close ER (sched m ρ) (Set.mem_univ (K (c, 3))) (fun h => h) (R := 0 + 1) (duties_later m ρ (sc2 c))) $$ [Has2] with Hc3
  · isplitr; · iexact HIs2
    iexact Has2
  imod (Rounds.cell_close ER (sched m ρ) (Set.mem_univ (K (c, 4))) (fun h => h) (R := 0 + 1) (duties_later m ρ (rc0 c))) $$ [Har0] with Hc4
  · isplitr; · iexact HIr0
    iexact Har0
  imod (Rounds.cell_close ER (sched m ρ) (Set.mem_univ (K (c, 5))) (fun h => h) (R := 0 + 1) (duties_later m ρ (rc1 c))) $$ [Har1] with Hc5
  · isplitr; · iexact HIr1
    iexact Har1
  imod (Rounds.cell_close ER (sched m ρ) (Set.mem_univ (K (c, 6))) (fun h => h) (R := 0 + 1) (duties_later m ρ (rc2 c))) $$ [Har2] with Hc6
  · isplitr; · iexact HIr2
    iexact Har2
  ihave Hcs3 := (pointsTo_share (PosShare.mem_left_op_right fullShare)).2 $$ [Has0_pay1 HcsR]
  · isplitl [Has0_pay1] <;> iassumption
  ihave Huk3 := (pointsTo_share (PosShare.mem_left_op_right fullShare)).2 $$ [Has1_pay1 HukR]
  · isplitl [Has1_pay1] <;> iassumption
  ihave Huv3 := (pointsTo_share (PosShare.mem_left_op_right fullShare)).2 $$ [Has2_pay1 HuvR]
  · isplitl [Has2_pay1] <;> iassumption
  iapply (ent_of_eq (wp_ret _ _ _ _ _).symm)
  imodintro
  iapply HK
  unfold post1 argPts scratchPts closed0 locals0
  isplitl [HO]; · iexists _; iexact HO
  isplitl [Hz13 Hz14 Hz15 Hz16]
  · isplitl [Hz13]; · iexact Hz13
    isplitl [Hz14]; · iexact Hz14
    isplitl [Hz15]; · iexact Hz15
    iexact Hz16
  isplitl [Hc0 Hc1 Hc2 Hc3 Hc4 Hc5 Hc6]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hc6
  isplitl [Hx Hwd Huk3 Huv3 Hwqr Hwkr Hwq Hwo]
  · isplitl [Hx]; · iexact Hx
    isplitl [Hwd]; · iexact Hwd
    isplitl [Huk3]; · iexact Huk3
    isplitl [Huv3]; · iexact Huv3
    isplitl [Hwqr]; · iexact Hwqr
    isplitl [Hwkr]; · iexact Hwkr
    isplitl [Hwq] <;> iassumption
  isplitl [Hout2]; · iexact Hout2
  isplitl [Hcs3]; · iexists _; iexact Hcs3
  isplitl [Har0_pay1]; · iexists _; iexact Har0_pay1
  isplitl [Har1_pay1]; · iexists _; iexact Har1_pay1
  isplitl [Har2_pay1]; · iexists _; iexact Har2_pay1
  isplitl [Hq]; · iexists _; iexact Hq
  isplitl [Hk]; · iexists _; iexact Hk
  isplitl [Hv]; · iexists _; iexact Hv
  isplitl [Hwq0]; · iexists _; iexact Hwq0
  isplitl [Hwq1]; · iexists _; iexact Hwq1
  isplitl [Hwo0]; · iexists _; iexact Hwo0
  iexists _; iexact Hwo1

end Cert.Mla
-- ==== Proof.Launch.lean ====
/-
  The launch: what every device starts from, the ghost state dealt over the mesh, and the run of the whole program.
-/
module

public import proofs.«01_k».proof.Proof.Body

@[expose] public section

noncomputable section

namespace Cert.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two slots of a staging buffer -/

theorem mem_slot {n k : ℕ} {off : Fin 3 → ℕ} {inb : ∀ a, off a + (![1, n, k] : Fin 3 → ℕ) a ≤ (⟨3, ![2, n, k]⟩ : Shape).size a}
    (h1 : off 1 = 0) (h2 : off 2 = 0) (y : (⟨3, ![2, n, k]⟩ : Shape).Idx) :
    y ∈ (Rect.unit (s := ⟨3, ![2, n, k]⟩) off ![1, n, k] inb).set ↔ (y 0).val = off 0 := by
  rw [Rect.mem_set_unit]
  have e1 : (y 1).val < n := (y 1).isLt
  have e2 : (y 2).val < k := (y 2).isLt
  constructor
  · intro H; have a0 : off 0 ≤ (y 0).val ∧ (y 0).val < off 0 + 1 := H 0; omega
  · intro H i; fin_cases i
    · show off 0 ≤ (y 0).val ∧ (y 0).val < off 0 + 1; omega
    · show off 1 ≤ (y 1).val ∧ (y 1).val < off 1 + n; omega
    · show off 2 ≤ (y 2).val ∧ (y 2).val < off 2 + k; omega

/-- Two sets of elements, those of the first slot and those of the second, are apart and are everything. -/
theorem slots_apart {n k : ℕ} {S : Fin 2 → Finset (⟨3, ![2, n, k]⟩ : Shape).Idx} (h : ∀ s y, y ∈ S s ↔ (y 0).val = s.val) :
    (∀ s s', s ≠ s' → Disjoint (S s) (S s')) ∧ (Finset.univ : Finset (Fin 2)).biUnion S = Finset.univ := by
  constructor
  · intro s s' hne
    rw [Finset.disjoint_left]
    intro y hy hy'
    exact hne (Fin.ext (((h s y).1 hy).symm.trans ((h s' y).1 hy')))
  · ext y
    simp only [Finset.mem_biUnion, Finset.mem_univ, true_and, iff_true]
    exact ⟨⟨(y 0).val, (y 0).isLt⟩, (h _ y).2 rfl⟩

abbrev wqS : Fin 2 → Finset S2x2048x256.Idx := ![wq0.view.set, wq1.view.set]
abbrev woS : Fin 2 → Finset S2x128x2048.Idx := ![wo0.view.set, wo1.view.set]

theorem mem_wqS (s : Fin 2) (y : S2x2048x256.Idx) : y ∈ wqS s ↔ (y 0).val = s.val := by
  have e0 : wq0.view.set = (Rect.unit (s := S2x2048x256) ![0, 0, 0] S1x2048x256.size inb_S2x2048x256_S1x2048x256_0_0_0).set :=
    (View.set_reshape _ _).trans (View.set_slice_whole _ _)
  have e1 : wq1.view.set = (Rect.unit (s := S2x2048x256) ![1, 0, 0] S1x2048x256.size inb_S2x2048x256_S1x2048x256_1_0_0).set :=
    (View.set_reshape _ _).trans (View.set_slice_whole _ _)
  fin_cases s
  · show y ∈ wq0.view.set ↔ _; rw [e0]; exact mem_slot rfl rfl y
  · show y ∈ wq1.view.set ↔ _; rw [e1]; exact mem_slot rfl rfl y
theorem mem_woS (s : Fin 2) (y : S2x128x2048.Idx) : y ∈ woS s ↔ (y 0).val = s.val := by
  have e0 : wo0.view.set = (Rect.unit (s := S2x128x2048) ![0, 0, 0] S1x128x2048.size inb_S2x128x2048_S1x128x2048_0_0_0).set :=
    (View.set_reshape _ _).trans (View.set_slice_whole _ _)
  have e1 : wo1.view.set = (Rect.unit (s := S2x128x2048) ![1, 0, 0] S1x128x2048.size inb_S2x128x2048_S1x128x2048_1_0_0).set :=
    (View.set_reshape _ _).trans (View.set_slice_whole _ _)
  fin_cases s
  · show y ∈ wo0.view.set ↔ _; rw [e0]; exact mem_slot rfl rfl y
  · show y ∈ wo1.view.set ↔ _; rw [e1]; exact mem_slot rfl rfl y

theorem two {I : Fin 2 → sProp 𝕄} : bigSep Finset.univ I = iprop(I 0 ∗ I 1) :=
  bigSep_univ_eq_bigSepL [(0 : Fin 2), (1 : Fin 2)] (by decide) (by decide) I

theorem wq_split (c : Dev nD) : iprop(∃ f : Buf (Elt F) ((c : Thread nD τ).loc cc0_scratch7), ((c : Thread nD τ).loc cc0_scratch7) ↦{fullShare} f)
    ⊢ (iprop((∃ f, pt c wq0 fullShare f) ∗ ∃ f, pt c wq1 fullShare f) : sProp 𝕄) := by
  iintro ⟨%f, H⟩
  ihave H2 := (ent_of_eq ((Ring.pointsTo_blocks (Ix := Unit) (Name := ℕ) (U := UU) (Lvl := ℕ) (q := fullShare)
    (ℓ := (c : Thread nD τ).loc cc0_scratch7) wqS (slots_apart mem_wqS).1 (slots_apart mem_wqS).2 f).trans two)) $$ H
  icases H2 with ⟨H0, H1⟩
  isplitl [H0]
  · iexists f; iexact H0
  · iexists f; iexact H1
theorem wo_split (c : Dev nD) : iprop(∃ f : Buf (Elt F) ((c : Thread nD τ).loc cc0_scratch8), ((c : Thread nD τ).loc cc0_scratch8) ↦{fullShare} f)
    ⊢ (iprop((∃ f, pt c wo0 fullShare f) ∗ ∃ f, pt c wo1 fullShare f) : sProp 𝕄) := by
  iintro ⟨%f, H⟩
  ihave H2 := (ent_of_eq ((Ring.pointsTo_blocks (Ix := Unit) (Name := ℕ) (U := UU) (Lvl := ℕ) (q := fullShare)
    (ℓ := (c : Thread nD τ).loc cc0_scratch8) woS (slots_apart mem_woS).1 (slots_apart mem_woS).2 f).trans two)) $$ H
  icases H2 with ⟨H0, H1⟩
  isplitl [H0]
  · iexists f; iexact H0
  · iexists f; iexact H1
theorem wq_join (c : Dev nD) : iprop((∃ f, pt c wq0 fullShare f) ∗ ∃ f, pt c wq1 fullShare f)
    ⊢ (iprop(∃ f : Buf (Elt F) ((c : Thread nD τ).loc cc0_scratch7), ((c : Thread nD τ).loc cc0_scratch7) ↦{fullShare} f) : sProp 𝕄) := by
  iintro ⟨⟨%f0, H0⟩, ⟨%f1, H1⟩⟩
  iapply (Ring.pointsTo_blocks_join_exists (ℓ := (c : Thread nD τ).loc cc0_scratch7) wqS (slots_apart mem_wqS).1 (slots_apart mem_wqS).2 f0)
  iapply (ent_of_eq two.symm)
  isplitl [H0]
  · iexists f0; iexact H0
  · iexists f1; iexact H1
theorem wo_join (c : Dev nD) : iprop((∃ f, pt c wo0 fullShare f) ∗ ∃ f, pt c wo1 fullShare f)
    ⊢ (iprop(∃ f : Buf (Elt F) ((c : Thread nD τ).loc cc0_scratch8), ((c : Thread nD τ).loc cc0_scratch8) ↦{fullShare} f) : sProp 𝕄) := by
  iintro ⟨⟨%f0, H0⟩, ⟨%f1, H1⟩⟩
  iapply (Ring.pointsTo_blocks_join_exists (ℓ := (c : Thread nD τ).loc cc0_scratch8) woS (slots_apart mem_woS).1 (slots_apart mem_woS).2 f0)
  iapply (ent_of_eq two.symm)
  isplitl [H0]
  · iexists f0; iexact H0
  · iexists f1; iexact H1

/-- A whole buffer's points-to is that of its memref. -/
theorem pt_whole (c : Dev nD) (b : Ref sig .tc) (f : Buf (Elt F) ((c : Thread nD τ).loc b)) :
    (((c : Thread nD τ).loc b ↦{fullShare} f : sProp 𝕄)) = pt c (Memref.whole b) fullShare f := by
  have h : (Memref.whole b : Memref sig .tc _ _ _).view.set = Finset.univ := View.set_whole _
  exact congrArg (fun S => ((c : Thread nD τ).loc b ↦[S]{fullShare} f : sProp 𝕄)) h.symm

theorem any_in (c : Dev nD) (b : Ref sig .tc) :
    iprop(∃ f : Buf (Elt F) ((c : Thread nD τ).loc b), ((c : Thread nD τ).loc b) ↦{fullShare} f) ⊢ (iprop(∃ f, pt c (Memref.whole b) fullShare f) : sProp 𝕄) := by
  iintro ⟨%f, H⟩
  iexists f
  iapply (ent_of_eq (pt_whole c b f)); iexact H
theorem any_out (c : Dev nD) (b : Ref sig .tc) :
    (iprop(∃ f, pt c (Memref.whole b) fullShare f) : sProp 𝕄) ⊢ iprop(∃ f : Buf (Elt F) ((c : Thread nD τ).loc b), ((c : Thread nD τ).loc b) ↦{fullShare} f) := by
  iintro ⟨%f, H⟩
  iexists f
  iapply (ent_of_eq (pt_whole c b f).symm); iexact H

/-- The buffers of the kernel's own, split into what the body names; -/
theorem scratch_in (c : Dev nD) : (Pipeline.scopedRest (Ix := Unit) (Name := ℕ) (U := UU) (Lvl := ℕ) (Val := Elt F) spec0 c : sProp 𝕄) ⊢ scratchPts c := by
  rw [scopedRest0_eq]
  unfold scratchPts
  iintro ⟨H0, H1, H2, H3, H4, H5, H6, H7, H8⟩
  ihave H7 := (wq_split (F := F) c) $$ H7
  ihave H8 := (wo_split (F := F) c) $$ H8
  icases H7 with ⟨H7, H9⟩
  icases H8 with ⟨H8, H10⟩
  isplitl [H0]; · iapply (any_in c cc0_scratch0); iexact H0
  isplitl [H1]; · iapply (any_in c cc0_scratch1); iexact H1
  isplitl [H2]; · iapply (any_in c cc0_scratch2); iexact H2
  isplitl [H3]; · iapply (any_in c cc0_scratch3); iexact H3
  isplitl [H4]; · iapply (any_in c cc0_scratch4); iexact H4
  isplitl [H5]; · iapply (any_in c cc0_scratch5); iexact H5
  isplitl [H6]; · iapply (any_in c cc0_scratch6); iexact H6
  isplitl [H7]; · iexact H7
  isplitl [H9]; · iexact H9
  isplitl [H8]; · iexact H8
  iexact H10
/-- and back. -/
theorem scratch_out (c : Dev nD) : scratchPts c ⊢ (Pipeline.scopedRest (Ix := Unit) (Name := ℕ) (U := UU) (Lvl := ℕ) (Val := Elt F) spec0 c : sProp 𝕄) := by
  rw [scopedRest0_eq]
  unfold scratchPts
  iintro ⟨H0, H1, H2, H3, H4, H5, H6, H7, H9, H8, H10⟩
  ihave H7 := (wq_join (F := F) c) $$ [H7 H9]
  · isplitl [H7]; · iexact H7
    iexact H9
  ihave H8 := (wo_join (F := F) c) $$ [H8 H10]
  · isplitl [H8]; · iexact H8
    iexact H10
  isplitl [H0]; · iapply (any_out c cc0_scratch0); iexact H0
  isplitl [H1]; · iapply (any_out c cc0_scratch1); iexact H1
  isplitl [H2]; · iapply (any_out c cc0_scratch2); iexact H2
  isplitl [H3]; · iapply (any_out c cc0_scratch3); iexact H3
  isplitl [H4]; · iapply (any_out c cc0_scratch4); iexact H4
  isplitl [H5]; · iapply (any_out c cc0_scratch5); iexact H5
  isplitl [H6]; · iapply (any_out c cc0_scratch6); iexact H6
  isplitl [H7]; · iexact H7
  iexact H8

/-! ## The pipeline's proof data -/

/-- The two operands the kernel reads where they lie. -/
abbrev wqOf (c : Dev nD) : Buf (Elt F) (wqM.view.loc (c : Thread nD τ)) := m ((c : Thread nD τ).loc main_arg4)
abbrev woOf (c : Dev nD) : Buf (Elt F) (woM.view.loc (c : Thread nD τ)) := m ((c : Thread nD τ).loc main_arg7)
/-- The result of device `c`. -/
abbrev outOf (c : Dev nD) : (cc0_stg6_0 : Ref sig .tc).ty.Contents (Elt F) := outAll m ρ c (wqOf m c) (woOf m c)

/-- The two operands in place, as the launch holds them. -/
def kept (c : Dev nD) : sProp 𝕄 :=
  iprop((((c : Thread nD τ).loc main_arg4) ↦{fullShare} m ((c : Thread nD τ).loc main_arg4))
    ∗ (((c : Thread nD τ).loc main_arg7) ↦{fullShare} m ((c : Thread nD τ).loc main_arg7)))

def start (c : Dev nD) : sProp 𝕄 := iprop((∃ K, ghost m ρ K c) ∗ locals0 c ∗ creds c ∗ levAts L lv ∗ kept m c)
def Φ₀ (c : Dev nD) : sProp 𝕄 := iprop(start m ρ c ∗ scratchPts c)
def Φ₁ (c : Dev nD) : sProp 𝕄 := iprop(locals0 c ∗ closed0 c ∗ kept m c ∗ scratchPts c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => wdst m ρ c
    | ⟨2, _⟩ => ukst m ρ c
    | ⟨3, _⟩ => uvst m ρ c
    | ⟨4, _⟩ => wqrst m ρ c
    | ⟨5, _⟩ => wkrst m ρ c
    | ⟨6, _⟩ => outOf m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem stg_in (c : Dev nD) (b : Ref sig .tc) (X : b.ty.Contents (Elt F)) : stg c b X ⊢ (pt c (Memref.whole b) fullShare X : sProp 𝕄) := by
  rw [← pt_whole]
  iintro ⟨%f, %h, H⟩
  subst h; iexact H
theorem stg_out (c : Dev nD) (b : Ref sig .tc) (X : b.ty.Contents (Elt F)) : (pt c (Memref.whole b) fullShare X : sProp 𝕄) ⊢ stg c b X := by
  rw [← pt_whole]
  iintro H
  iexists X
  isplitr; · ipureintro; rfl
  iexact H

/-- The two operands as the body names them, and back. -/
theorem kept_eq (c : Dev nD) : (kept m c : sProp 𝕄) = iprop(pt c wqM fullShare (wqOf m c) ∗ pt c woM fullShare (woOf m c)) := by
  unfold kept; rw [pt_whole, pt_whole]

theorem win_all (Φ : Fin cfg0.W → sProp 𝕄) : bigSep Finset.univ Φ
    = iprop(Φ (0 : Fin 7) ∗ Φ (1 : Fin 7) ∗ Φ (2 : Fin 7) ∗ Φ (3 : Fin 7) ∗ Φ (4 : Fin 7) ∗ Φ (5 : Fin 7) ∗ Φ (6 : Fin 7)) := bigSep_W0 Φ

def bodyPre (c : Dev nD) : sProp 𝕄 :=
  iprop(Φ₀ m ρ c ∗ (dats m ρ 0 c).owesAt () t0_0.castSucc
    ∗ (∃ d, stg c cc0_stg0_0 ((dats m ρ 0 c).before (0 : Fin 7) t0_0 d)) ∗ (∃ d, stg c cc0_stg1_0 ((dats m ρ 0 c).before (1 : Fin 7) t0_0 d))
    ∗ (∃ d, stg c cc0_stg2_0 ((dats m ρ 0 c).before (2 : Fin 7) t0_0 d)) ∗ (∃ d, stg c cc0_stg3_0 ((dats m ρ 0 c).before (3 : Fin 7) t0_0 d))
    ∗ (∃ d, stg c cc0_stg4_0 ((dats m ρ 0 c).before (4 : Fin 7) t0_0 d)) ∗ (∃ d, stg c cc0_stg5_0 ((dats m ρ 0 c).before (5 : Fin 7) t0_0 d))
    ∗ (∃ d, stg c cc0_stg6_0 ((dats m ρ 0 c).before (6 : Fin 7) t0_0 d)))
def bodyPost (c : Dev nD) : sProp 𝕄 :=
  iprop(Φ₁ m c ∗ (dats m ρ 0 c).owesAt () t0_0.succ ∗ stg c cc0_stg0_0 (xst m ρ c) ∗ stg c cc0_stg1_0 (wdst m ρ c) ∗ stg c cc0_stg2_0 (ukst m ρ c)
    ∗ stg c cc0_stg3_0 (uvst m ρ c) ∗ stg c cc0_stg4_0 (wqrst m ρ c) ∗ stg c cc0_stg5_0 (wkrst m ρ c) ∗ stg c cc0_stg6_0 (outOf m ρ c))

/-! What the staging buffers hold when the body begins: the operands fetched into them. -/

theorem before0 (c : Dev nD) (d) : (dats m ρ 0 c).before (0 : Fin 7) t0_0 d = xst m ρ c := by unfold Dat.before; rw [if_pos (show (cfg0.win (0 : Fin 7)).fetch t0_0 = true from rfl)]; rfl
theorem before1 (c : Dev nD) (d) : (dats m ρ 0 c).before (1 : Fin 7) t0_0 d = wdst m ρ c := by unfold Dat.before; rw [if_pos (show (cfg0.win (1 : Fin 7)).fetch t0_0 = true from rfl)]; rfl
theorem before2 (c : Dev nD) (d) : (dats m ρ 0 c).before (2 : Fin 7) t0_0 d = ukst m ρ c := by unfold Dat.before; rw [if_pos (show (cfg0.win (2 : Fin 7)).fetch t0_0 = true from rfl)]; rfl
theorem before3 (c : Dev nD) (d) : (dats m ρ 0 c).before (3 : Fin 7) t0_0 d = uvst m ρ c := by unfold Dat.before; rw [if_pos (show (cfg0.win (3 : Fin 7)).fetch t0_0 = true from rfl)]; rfl
theorem before4 (c : Dev nD) (d) : (dats m ρ 0 c).before (4 : Fin 7) t0_0 d = wqrst m ρ c := by unfold Dat.before; rw [if_pos (show (cfg0.win (4 : Fin 7)).fetch t0_0 = true from rfl)]; rfl
theorem before5 (c : Dev nD) (d) : (dats m ρ 0 c).before (5 : Fin 7) t0_0 d = wkrst m ρ c := by unfold Dat.before; rw [if_pos (show (cfg0.win (5 : Fin 7)).fetch t0_0 = true from rfl)]; rfl

set_option maxRecDepth 4000 in
theorem body_pre (c : Dev nD) : bodyPre m ρ c ⊢ iprop(∃ K W f0, ghost m ρ K c ∗ creds c ∗ levAts L lv ∗ owes (c : Thread nD τ) (O₀ c) W ∗ locals0 c
      ∗ argPts m ρ c (wqOf m c) (woOf m c) ∗ pt c outM fullShare f0 ∗ scratchPts c) := by
  unfold bodyPre Φ₀ start argPts
  rw [kept_eq]
  unfold Dat.owesAt Pipeline.owesWithin
  rw [show (dats m ρ 0 c).owed t0_0.castSucc = O₀ c from rfl]
  simp only [before0, before1, before2, before3, before4, before5]
  iintro ⟨⟨⟨⟨%K, Hg⟩, Hl, Hc, Hlev, Hwq, Hwo⟩, Hsc⟩, ⟨%W, %hW, HO⟩, ⟨%d0, H0⟩, ⟨%d1, H1⟩, ⟨%d2, H2⟩, ⟨%d3, H3⟩, ⟨%d4, H4⟩, ⟨%d5, H5⟩, ⟨%d6, H6⟩⟩
  iexists K; iexists W; iexists _
  isplitl [Hg]; · iexact Hg
  isplitl [Hc]; · iexact Hc
  isplitl [Hlev]; · iexact Hlev
  isplitl [HO]; · iexact HO
  isplitl [Hl]; · iexact Hl
  isplitl [H0 H1 H2 H3 H4 H5 Hwq Hwo]
  · isplitl [H0]; · iapply (stg_in c cc0_stg0_0 _); iexact H0
    isplitl [H1]; · iapply (stg_in c cc0_stg1_0 _); iexact H1
    isplitl [H2]; · iapply (stg_in c cc0_stg2_0 _); iexact H2
    isplitl [H3]; · iapply (stg_in c cc0_stg3_0 _); iexact H3
    isplitl [H4]; · iapply (stg_in c cc0_stg4_0 _); iexact H4
    isplitl [H5]; · iapply (stg_in c cc0_stg5_0 _); iexact H5
    isplitl [Hwq]; · iexact Hwq
    iexact Hwo
  isplitl [H6]; · iapply (stg_in c cc0_stg6_0 _); iexact H6
  iexact Hsc

theorem body_post (c : Dev nD) : post1 m ρ c (wqOf m c) (woOf m c) ⊢ bodyPost m ρ c := by
  unfold bodyPost Φ₁ post1 argPts
  rw [kept_eq]
  unfold Dat.owesAt Pipeline.owesWithin
  rw [show (dats m ρ 0 c).owed t0_0.succ = 0 from rfl]
  iintro ⟨⟨%W, HO⟩, Hl, Hc, ⟨H0, H1, H2, H3, H4, H5, Hwq, Hwo⟩, H6, Hsc⟩
  isplitl [Hl Hc Hwq Hwo Hsc]
  · isplitl [Hl]; · iexact Hl
    isplitl [Hc]; · iexact Hc
    isplitl [Hwq Hwo]
    · isplitl [Hwq]; · iexact Hwq
      iexact Hwo
    iexact Hsc
  isplitl [HO]
  · iexists W
    isplitr; · ipureintro; exact fun _ _ => Or.inl trivial
    iexact HO
  isplitl [H0]; · iapply (stg_out c cc0_stg0_0 _); iexact H0
  isplitl [H1]; · iapply (stg_out c cc0_stg1_0 _); iexact H1
  isplitl [H2]; · iapply (stg_out c cc0_stg2_0 _); iexact H2
  isplitl [H3]; · iapply (stg_out c cc0_stg3_0 _); iexact H3
  isplitl [H4]; · iapply (stg_out c cc0_stg4_0 _); iexact H4
  isplitl [H5]; · iapply (stg_out c cc0_stg5_0 _); iexact H5
  iapply (stg_out c cc0_stg6_0 _); iexact H6

set_option maxRecDepth 20000 in
set_option maxHeartbeats 2000000 in
/-- The library's obligation of the body on device `c`. -/
theorem body_obligation (c : Dev nD) : BodyObligation (dats (F := F) m ρ 0 c) (defs₀ (F := F)) Variants.none () Set.univ := fun t => by
  rw [fin_N0 t]
  rw [win_all, win_all]
  simp only [owns_stg]
  show bodyPre m ρ c ⊢ wp frame (wpE (defs₀ (F := F)) Variants.none c none) Set.univ (bodyAt (F := F)) (fun _ => bodyPost m ρ c)
  iintro H
  ihave H2 := (body_pre m ρ c) $$ H
  icases H2 with ⟨%K, %W, %f0, Hg, Hc, Hlev, HO, Hl, Ha, Ho, Hsc⟩
  iapply (run1 m ρ K c W (fun _ => bodyPost m ρ c) (wqOf m c) (woOf m c) f0)
  isplitl [Hg]; · iexact Hg
  isplitl [Hc]; · iexact Hc
  isplitl [Hlev]; · iexact Hlev
  isplitl [HO]; · iexact HO
  isplitl [Hl]; · iexact Hl
  isplitl [Ha]; · iexact Ha
  isplitl [Ho]; · iexact Ho
  isplitl [Hsc]; · iexact Hsc
  iintro Hp
  iapply (body_post m ρ c); iexact Hp

end Cert.Mla
-- ==== Proof.Run.lean ====
/-
  The run of the whole program on the mesh of sixteen devices, for any float values: the cells' states and tokens made
  at the launch, the tokens passed to the partners that pay with them, and the final state read off.
-/
module

public import proofs.«01_k».proof.Proof.Launch
public import Idealize.ShloMosaic.Lib.Pipeline.CollectiveSegs

@[expose] public section

noncomputable section

namespace Cert.Mla

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells of the mesh, and one token each. -/
def allCells : Finset (GSem nD τ sig) := Finset.univ.map ⟨kcell, kcell_injective⟩
abbrev tokOf (ck : Dev nD × Fin 7) : GSem nD τ sig × ℕ × Unit := (kcell ck, 0, ())
theorem tokOf_injective : Function.Injective tokOf := fun _ _ h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), (initOf allCells allToks, 1))

theorem cells_own : BI.own (((Emb.inl : Emb UX (UX × Counters)).trans embR) (initOf allCells allToks)) ⊢ (BI.own (ER (initOf allCells allToks)) : sProp 𝕄) := by
  unfold ER; exact .rfl

/-- The tokens of device `c`'s own cells. -/
def toks (c : Dev nD) : sProp 𝕄 := bigSep Finset.univ fun k : Fin 7 => dutyTok ER (kcell (c, k)) 0 ()

/-- What the launch element gives device `c`; -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- what it has once the cells are shared. -/
def G' (c : Dev nD) : sProp 𝕄 := iprop((∃ K, ghost m ρ K c) ∗ locals0 c)

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m ρ) allCells allToks) $$ HX with ⟨Hst, Hr, Hat, Htok⟩
  imodintro
  ihave Hst := (ent_of_eq (hX fun g => roundState ER (sched m ρ) g 0)) $$ Hst
  ihave Hat := (ent_of_eq (hX fun g => atPos ER g 0 ∅ 0)) $$ Hat
  ihave Hr := (ent_of_eq (hX fun g => reached ER g 0)) $$ Hr
  ihave Htok := (ent_of_eq hT) $$ Htok
  unfold G; simp only [bigSep_sep']
  isplitl [Hst]; · iexact Hst
  isplitl [Hat Hr]
  · isplitl [Hat]; · iexact Hat
    iexact Hr
  iexact Htok

theorem ownSems0_eq (c : Dev nD) : (Pipeline.ownSems0 (Ix := Unit) (Name := ℕ) (U := UU) (Lvl := ℕ) (Val := Elt F) (τ := τ) osem c : sProp 𝕄)
    = iprop(semVal (sc0 c) 0 ∗ semVal (sc1 c) 0 ∗ semVal (sc2 c) 0 ∗ semVal (rc0 c) 0 ∗ semVal (rc1 c) 0 ∗ semVal (rc2 c) 0 ∗ locals0 c) := by
  rw [Pipeline.ownSems0_eq_of_list c osem [0, 1, 2, 3, 4, 5, 6, 7, 8, 9] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters of the seven cells, and those of the local copies kept aside. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ locals0 c) : sProp 𝕄) := by
  rw [ownSems0_eq, unscopedSems0_eq, seven]
  iintro ⟨⟨H1, H2, H3, H4, H5, H6, Hl⟩, H0⟩
  isplitr [Hl]
  · isplitl [H0]; · iexact H0
    isplitl [H1]; · iexact H1
    isplitl [H2]; · iexact H2
    isplitl [H3]; · iexact H3
    isplitl [H4]; · iexact H4
    isplitl [H5]; · iexact H5
    iexact H6
  iexact Hl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ locals0 c) := by
  unfold G
  iintro ⟨Hos, Hus, Hst, Hat, Htok⟩
  ihave Hv := (sems_split (F := F) c) $$ [Hos Hus]
  · isplitl [Hos]; · iexact Hos
    iexact Hus
  icases Hv with ⟨Hv, Hl⟩
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hl

/-- What everyone may know: every cell's invariant, and that every cell is at round 0. -/
def known (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance known_persistent (K : Dev nD × Fin 7 → ℕ) : BI.Persistent (known m ρ K) := by unfold known; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem invs_intro (K : Dev nD × Fin 7 → ℕ) (c : Dev nD) :
    (bigSep Finset.univ fun ck : Dev nD × Fin 7 => (cellInv ER (sched m ρ) (K ck) (kcell ck) : sProp 𝕄)) ⊢ invs m ρ K c := by
  unfold invs
  iintro #HI
  isplitr; · iapply (inv_at m ρ K (c, 0)); iexact HI
  isplitr; · iapply (inv_at m ρ K (c, 1)); iexact HI
  isplitr; · iapply (inv_at m ρ K (c, 2)); iexact HI
  isplitr; · iapply (inv_at m ρ K (c, 3)); iexact HI
  isplitr; · iapply (inv_at m ρ K (c, 4)); iexact HI
  isplitr; · iapply (inv_at m ρ K (c, 5)); iexact HI
  isplitr; · iapply (inv_at m ρ K (c, 6)); iexact HI
  isplitr; · iapply (inv_at m ρ K (peer c, 0)); iexact HI
  isplitr; · iapply (inv_at m ρ K (peer c, 4)); iexact HI
  isplitr; · iapply (inv_at m ρ K (peer c, 5)); iexact HI
  iapply (inv_at m ρ K (peer c, 6)); iexact HI

theorem marks_intro (c : Dev nD) : (bigSep Finset.univ fun ck : Dev nD × Fin 7 => (reached ER (kcell ck) 0 : sProp 𝕄)) ⊢ marks c := by
  unfold marks
  iintro #HR
  isplitr; · iapply (reached_at (F := F) (peer c, 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  iapply (reached_at (F := F) (c, 6)); iexact HR

theorem ghost_intro (K : Dev nD × Fin 7 → ℕ) (c : Dev nD) : iprop(known m ρ K ∗ (ats c ∗ payToks c ∗ locals0 c)) ⊢ G' m ρ c := by
  unfold known G' ghost
  iintro ⟨⟨#HI, #HR⟩, Ha, Ht, Hl⟩
  isplitr [Hl]
  · iexists K
    isplitr; · iapply (invs_intro m ρ K c); iexact HI
    isplitr; · iapply (marks_intro (F := F) c); iexact HR
    isplitl [Ha]; · iexact Ha
    iexact Ht
  iexact Hl

/-- The barrier's token and the arrivals' go to the partner, who pays with them. -/
theorem toks_swap : (bigSep Finset.univ fun c : Dev nD => (toks c : sProp 𝕄)) ⊢ bigSep Finset.univ fun c : Dev nD => payToks c := by
  unfold toks payToks
  simp only [seven]
  simp only [bigSep_sep']
  rw [bigSep_univ_equiv swap (fun c : Dev nD => (dutyTok ER (kcell (c, 0)) 0 () : sProp 𝕄)),
    bigSep_univ_equiv swap (fun c : Dev nD => (dutyTok ER (kcell (c, 4)) 0 () : sProp 𝕄)),
    bigSep_univ_equiv swap (fun c : Dev nD => (dutyTok ER (kcell (c, 5)) 0 () : sProp 𝕄)),
    bigSep_univ_equiv swap (fun c : Dev nD => (dutyTok ER (kcell (c, 6)) 0 () : sProp 𝕄))]
  exact .rfl

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ats_intro : (bigSep Finset.univ fun c : Dev nD => bigSep Finset.univ fun k : Fin 7 => (atPos ER (kcell (c, k)) 0 ∅ 0 : sProp 𝕄))
    ⊢ bigSep Finset.univ fun c : Dev nD => ats c :=
  bigSep_mono fun c _ => ent_of_eq (by unfold ats; rw [seven]; rfl)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ locals0 c) : sProp 𝕄)
      ⊢ bigSep Finset.univ (G' m ρ) := by
  rw [bigSep_sep', bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hl⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_swap (F := F)) $$ Htok
  ihave Hat := (ats_intro (F := F)) $$ Hat
  iapply (each_with (R := known m ρ K) fun c _ => ghost_intro m ρ K c)
  isplitr
  · unfold known
    isplitr; · iexact HI
    iexact HR
  · simp only [bigSep_sep']
    isplitl [Hat]; · iexact Hat
    isplitl [Htk]; · iexact Htk
    iexact Hl

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of the launch: each of a device's four paid cells is paid by the partner -/

theorem kcell_dev {a b : Dev nD} {l l' : SemLoc sig} (h : (((a : Thread nD τ), l) : GSem nD τ sig) = ((b : Thread nD τ), l')) : a = b :=
  congrArg (fun g : GSem nD τ sig => g.1.1) h

theorem tally_at {g g' : GSem nD τ sig} {n : ℕ} : (tallyAt g () n : CellTallies nD τ sig Unit) g' () = if g' = g then n else 0 := by
  rw [tallyAt_apply]; simp

/-- What device `d` owes a cell of device `c`. -/
theorem owed_cell (d c : Dev nD) (l : SemLoc sig) : O₀ d ((c : Thread nD τ), l) ()
    = if d = peer c then (if l = .reg barS then 1 else if l = .dma 10 then N0 else if l = .dma 11 ∨ l = .dma 12 then N1 else 0) else 0 := by
  unfold O₀ O₁
  simp only [Pi.add_apply, Finsupp.add_apply, tally_at]
  by_cases h : d = peer c
  · subst h
    rw [peer_peer, if_pos rfl]
    have e (l' : SemLoc sig) : ((((c : Thread nD τ), l) : GSem nD τ sig) = ((c : Thread nD τ), l')) ↔ l = l' :=
      ⟨fun h => congrArg Prod.snd h, fun h => h ▸ rfl⟩
    simp only [e]
    by_cases h0 : l = .reg barS
    · subst h0; simp
    by_cases h1 : l = .dma 10
    · subst h1; rw [if_neg (by decide), if_neg (by decide), if_pos rfl, if_neg (by decide), if_neg (by decide), if_pos rfl]; omega
    by_cases h2 : l = .dma 11
    · subst h2; rw [if_neg (by decide), if_pos rfl, if_neg (by decide), if_neg (by decide), if_neg (by decide), if_neg (by decide), if_pos (Or.inl rfl)]; omega
    by_cases h3 : l = .dma 12
    · subst h3; rw [if_pos rfl, if_neg (by decide), if_neg (by decide), if_neg (by decide), if_neg (by decide), if_neg (by decide), if_pos (Or.inr rfl)]; omega
    rw [if_neg h3, if_neg h2, if_neg h1, if_neg h0, if_neg h0, if_neg h1, if_neg (fun h => h.elim h2 h3)]
  · have e (l' : SemLoc sig) : ¬ ((((c : Thread nD τ), l) : GSem nD τ sig) = ((peer d : Thread nD τ), l')) := fun h' =>
      h (by rw [kcell_dev h', peer_peer])
    simp only [e, if_false, if_neg h]

theorem launch_cell (c : Dev nD) (l : SemLoc sig) (n : ℕ)
    (h : (if l = .reg barS then 1 else if l = .dma 10 then N0 else if l = .dma 11 ∨ l = .dma 12 then N1 else 0) = n) :
    tallyOn ((c : Thread nD τ), l) (launchCredit (Pipeline.owing O₀) 0 ((c : Thread nD τ), l)) = (tallyAt ((c : Thread nD τ), l) () n : CellTallies nD τ sig Unit) := by
  unfold tallyAt; refine congrArg _ (Finsupp.ext fun u => ?_); cases u
  rw [Pipeline.launchCredit_owing, Finsupp.single_eq_same, Finset.sum_congr rfl fun d _ => owed_cell d c l, h,
    Finset.sum_ite_eq' Finset.univ (peer c) fun _ => n, if_pos (Finset.mem_univ _)]

theorem creds_intro (c : Dev nD) : (Pipeline.launchCred O₀ c : sProp 𝕄) ⊢ creds c := by
  unfold Pipeline.launchCred creds
  rw [bigSep_univ_at _ (SemLoc.reg barS), launch_cell c _ 1 (by decide)]
  refine sep_mono_right ?_
  have hs : ({.dma 10, .dma 11, .dma 12} : Finset (SemLoc sig)) ⊆ Finset.univ.erase (SemLoc.reg barS) := by decide
  refine (bigSep_subset hs).trans ?_
  rw [bigSep_insert (by decide), bigSep_insert (by decide), bigSep_singleton, launch_cell c (.dma 10) N0 rfl, launch_cell c (.dma 11) N1 rfl,
    launch_cell c (.dma 12) N1 rfl]
  exact BI.Entails.refl _

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start G' kept
  iintro ⟨⟨Hwq, Hwo⟩, Hlev, Hcr, -, HG, Hl⟩
  ihave Hc := (creds_intro (F := F) c) $$ Hcr
  imodintro
  isplitl
  · isplitl [HG]; · iexact HG
    isplitl [Hl]; · iexact Hl
    isplitl [Hc]; · iexact Hc
    isplitl [Hlev]; · iexact Hlev
    isplitl [Hwq]; · iexact Hwq
    iexact Hwo
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_in (F := F) c); iexact Hr

theorem phi1_exit (c : Dev nD) :
    (dats m ρ 0 c).Φ (Fin.last cfg0.N) ⊢ iprop((unscopedSems0 c ∗ kept m c) ∗ Pipeline.ownSems0 osem c ∗ Pipeline.scopedRest cfg0.spec c) := by
  rw [show (dats m ρ 0 c).Φ (Fin.last cfg0.N) = Φ₁ m c from rfl, ownSems0_eq, unscopedSems0_eq]
  unfold Φ₁ closed0
  iintro ⟨Hl, ⟨H0, H1, H2, H3, H4, H5, H6⟩, Hk, Hr⟩
  isplitl [H0 Hk]
  · isplitl [H0]; · iexact H0
    iexact Hk
  isplitr [Hr]
  · isplitl [H1]; · iexact H1
    isplitl [H2]; · iexact H2
    isplitl [H3]; · iexact H3
    isplitl [H4]; · iexact H4
    isplitl [H5]; · iexact H5
    isplitl [H6]; · iexact H6
    iexact Hl
  iapply (scratch_out (F := F) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read of the machine beside the windows' arrays: the barrier counters, and the two operands left in place. -/
def Aside (c : Dev nD) (s : MemSt nD τ sig (Elt F)) : Prop :=
  (∀ sm : SemLoc sig, sm.isScoped .tc = false → s.sem ((c.tc : Thread nD τ), sm) = 0)
    ∧ s.mem ((c : Thread nD τ).loc main_arg4) = m ((c : Thread nD τ).loc main_arg4) ∧ s.mem ((c : Thread nD τ).loc main_arg7) = m ((c : Thread nD τ).loc main_arg7)

theorem aside_read (c : Dev nD) (s' : Phys nD τ sig (Elt F)) :
    iprop((unscopedSems0 c ∗ kept m c) ∗ emp ∗ SI s') ⊢ (|={Set.univ}=> iprop(⌜Aside m c s'.mem⌝ ∗ SI s') : sProp 𝕄) := by
  unfold kept
  iintro ⟨⟨Hu, H4, H7⟩, -, HSI⟩
  ihave %h4 := (SI_pointsTo_agree (ℓ := (c : Thread nD τ).loc main_arg4) (I := Finset.univ) (q := fullShare)
    (f := m ((c : Thread nD τ).loc main_arg4)) (st := s')) $$ [HSI H4]
  · isplitl [HSI]; · iexact HSI
    iexact H4
  ihave %h7 := (SI_pointsTo_agree (ℓ := (c : Thread nD τ).loc main_arg7) (I := Finset.univ) (q := fullShare)
    (f := m ((c : Thread nD τ).loc main_arg7)) (st := s')) $$ [HSI H7]
  · isplitl [HSI]; · iexact HSI
    iexact H7
  imod (Pipeline.unscopedSems0_read (X := unscopedSems0 c) (c := c) fupd_intro s') $$ [Hu HSI] with ⟨%hs, HSI⟩
  · isplitl [Hu]; · iexact Hu
    iexact HSI
  imodintro
  isplitr
  · ipureintro; exact ⟨hs, Buf.eq_of_forall_mem_univ h4, Buf.eq_of_forall_mem_univ h7⟩
  iexact HSI

set_option maxRecDepth 8000 in
/-- On the mesh of sixteen devices, for any float values, from any memory with zero counters: every weakly fair
    execution terminates, and at its end each array of a window is as the pipeline leaves it, the two operands read in
    place are unchanged, and every counter is zero. -/
theorem run_all : θ_run defs (onTc (τ := τ) (main (F := F))) (s₀ m ρ) (fun r =>
    (∀ c : Dev nD, (∀ w : Fin cfg0.W, r.2.mem ((cfg0.win w).arr.view.loc (c : Thread nD τ)) = (dats m ρ 0 c).arrAt w cfg0.N)
      ∧ r.2.mem ((c : Thread nD τ).loc main_arg4) = m ((c : Thread nD τ).loc main_arg4) ∧ r.2.mem ((c : Thread nD τ).loc main_arg7) = m ((c : Thread nD τ).loc main_arg7))
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H2 := (own_pair_emb _ _ _) $$ HX
      icases H2 with ⟨HX, -⟩
      ihave HX := (cells_own (F := F)) $$ HX
      imod (fund_cells m ρ) $$ HX with HG
      imodintro
      isplitl [HP]; · iexact HP
      iexact HG)
    (hglob := glob m ρ)
    (hA := fun _ _ => rfl) (hpf := fun _ k => k.elim0)
    (X := start m ρ) (Y := fun c => iprop(unscopedSems0 c ∗ kept m c)) (Z := fun _ => iprop(emp))
    (hX := start_intro m ρ) (hin := phi0_intro m ρ) (hout := phi1_exit m ρ)
    (QY := Aside m) (hY := aside_read m)
    (hQ := fun _ h hs => ⟨fun c => ⟨fun w => (h c).1 w, (h c).2.2.2⟩, sem_eq_zero hs fun c => (h c).2.2.1⟩)

end Cert.Mla
-- ==== Proof.Frames.lean ====
/-
  The run read at the arguments and the result: every argument ends as it began, the result buffer of device `c` holds
  `outOf m ρ c`, and every counter is zero. The three frames of the certificate follow.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.ValueKit

@[expose] public section

noncomputable section

namespace Cert.Mla

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The result array is written back once, whole. -/
theorem final_out (c : Dev nD) : (dats m ρ 0 c).arrAt (6 : Fin 7) cfg0.N = outOf m ρ c :=
  (dats m ρ 0 c).arrAt_eq_of_after_last (6 : Fin 7) t0_0 (by decide +kernel) (outOf m ρ c) (fun _ => rfl)

/-- Every argument of every device is in `m'` as in `m`. -/
def ArgsKept (m' : (ℓ : Loc nD τ sig) → Buf (Elt F) ℓ) : Prop := ∀ c : Dev nD,
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)

/-- On every device, for any float values, from any memory with zero counters: every weakly fair execution terminates
    with the arguments unchanged, the result at `outOf`, and every counter at zero. -/
theorem run_main : θ_run defs (onTc (τ := τ) (main (F := F))) (s₀ m ρ) (fun r =>
    ArgsKept m r.2.mem ∧ (∀ c : Dev nD, r.2.mem ((c.tc : Thread nD τ).loc main_v1) = outOf m ρ c) ∧ r.2.sem = fun _ => 0) :=
  (θ_run defs _ _).mono (fun r h => by
    have keep (c : Dev nD) (w : Fin cfg0.W) (hw : (cfg0.win w).isOut = false) := ((h.1 c).1 w).trans ((dats m ρ 0 c).arrAt_in w hw _)
    exact ⟨fun c => ⟨keep c (0 : Fin 7) rfl, keep c (1 : Fin 7) rfl, keep c (2 : Fin 7) rfl, keep c (3 : Fin 7) rfl, (h.1 c).2.1,
      keep c (4 : Fin 7) rfl, keep c (5 : Fin 7) rfl, (h.1 c).2.2⟩, fun c => ((h.1 c).1 (6 : Fin 7)).trans (final_out m ρ c), h.2⟩)
  (run_all m ρ)

theorem frame_ideal : Cert.quiescent_KernelIdeal := fun m ρ _ =>
  (θ_run Cert.KernelIdeal.defs _ _).mono (fun _ h => ⟨h.1, h.2.2⟩) (run_main (F := Ideal) m ρ)

/-! The program the certificate's first claim is about has the same text, so its executions are those above over floats of fixed width. -/

set_option maxRecDepth 10000 in
theorem defs0_same : @Cert.Kernel.defs₀ Bits _ _ = @Cert.KernelIdeal.defs₀ Bits _ _ :=
  congrArg Defs.onTc (funext fun l => funext fun a => by
    match l, a with
    | 0, (t, s) => rfl
    | ⟨_ + 1, h⟩, _ => exact absurd h (Nat.not_lt.2 (Nat.le_add_left _ _)))

theorem defs_same : @Cert.Kernel.defs Bits _ _ = @Cert.KernelIdeal.defs Bits _ _ := congrArg (Pipeline.defs _) defs0_same

theorem frame_kernel : Cert.quiescent_Kernel := fun m ρ _ => by
  rw [defs_same]
  exact (θ_run Cert.KernelIdeal.defs _ _).mono (fun _ (h : _ ∧ _ ∧ _) => (⟨h.1, h.2.2⟩ : _ ∧ _)) (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mla
-- ==== Proof.Softmax.lean ====
/-
  The mathematics both programs compute, over the extended reals: sums and products of reals are real, and a
  softmax-weighted sum does not depend on the maximum that is subtracted from the scores, nor on whether the division by
  the sum of the exponentials comes before or after the weighted sum.
-/
module

public import Idealize.ShloMosaic.Lib.Pointwise
public import Idealize.ShloMosaic.PureOps.Ideal

@[expose] public section

noncomputable section

namespace Cert.Mla

open Idealize.ShloMosaic

/-- An extended real that is a real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, rfl⟩

theorem IsReal.sum {ι : Type*} (s : Finset ι) {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem isReal_of_ne {x : EReal} (ht : x ≠ ⊤) (hb : x ≠ ⊥) : IsReal x := ⟨x.toReal, (EReal.coe_toReal ht hb).symm⟩

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Multiplication by a real that is not negative distributes over a sum, infinities included. -/
theorem coe_mul_sum {ι : Type*} (s : Finset ι) {r : ℝ} (h : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr h) (EReal.coe_ne_top r) _ _

/-- The maximum of reals, folded from `⊥` over a set that has an element, is real. -/
theorem isReal_fold_max {ι : Type*} (s : Finset ι) (f : ι → EReal) (hs : s.Nonempty) (h : ∀ i ∈ s, IsReal (f i)) :
    IsReal (s.fold max ⊥ f) := by
  classical
  induction hs using Finset.Nonempty.cons_induction with
  | singleton a =>
    rw [Finset.fold_singleton]
    simpa using h a (Finset.mem_singleton_self a)
  | cons a s ha hs ih =>
    rw [Finset.fold_cons]
    rcases max_choice (f a) (s.fold max ⊥ f) with e | e <;> rw [e]
    · exact h a (Finset.mem_cons_self a s)
    · exact ih fun i hi => h i (Finset.mem_cons_of_mem hi)

/-- The softmax-weighted sum, divided after; -/
def softAfter {n : ℕ} (σ v : Fin n → EReal) : EReal :=
  Ideal.div (∑ t, Ideal.exp (σ t) * v t) (∑ t, Ideal.exp (σ t))
/-- and before, the scores less their maximum. -/
def softBefore {n : ℕ} (σ v : Fin n → EReal) : EReal :=
  ∑ t, v t * Ideal.div (Ideal.exp (σ t - Finset.univ.fold max ⊥ σ)) (∑ u, Ideal.exp (σ u - Finset.univ.fold max ⊥ σ))

theorem softAfter_eq {n : ℕ} (hn : 0 < n) (σ v : Fin n → EReal) (h : ∀ t, IsReal (σ t)) : softAfter σ v = softBefore σ v := by
  haveI : Nonempty (Fin n) := ⟨⟨0, hn⟩⟩
  obtain ⟨M, hM⟩ := isReal_fold_max Finset.univ σ Finset.univ_nonempty fun t _ => h t
  choose r hr using h
  have hσ : σ = fun t => ((r t : ℝ) : EReal) := funext hr
  have hZ : 0 < ∑ t, Real.exp (r t) := Finset.sum_pos (fun t _ => Real.exp_pos _) Finset.univ_nonempty
  have hW : 0 < ∑ t, Real.exp (r t - M) := Finset.sum_pos (fun t _ => Real.exp_pos _) Finset.univ_nonempty
  have hWZ : ∑ t, Real.exp (r t - M) = (∑ t, Real.exp (r t)) * Real.exp (-M) := by
    rw [Finset.sum_mul]; exact Finset.sum_congr rfl fun t _ => by rw [← Real.exp_add, sub_eq_add_neg]
  have e1 : ∀ t, Ideal.exp (σ t) = ((Real.exp (r t) : ℝ) : EReal) := fun t => by rw [hr t]; rfl
  have e2 : ∀ t, Ideal.exp (σ t - Finset.univ.fold max ⊥ σ) = ((Real.exp (r t - M) : ℝ) : EReal) := fun t => by
    rw [hM, hr t, ← EReal.coe_sub]; rfl
  unfold softAfter softBefore
  simp only [e1, e2]
  rw [← coe_sum, ← coe_sum, Ideal.div_coe hZ.ne', mul_comm, coe_mul_sum _ (by positivity)]
  refine Finset.sum_congr rfl fun t _ => ?_
  rw [Ideal.div_coe hW.ne', ← EReal.coe_mul, ← mul_assoc, ← EReal.coe_mul, mul_comm (v t)]
  congr 2
  rw [hWZ, sub_eq_add_neg, Real.exp_add]
  have := (Real.exp_pos (-M)).ne'
  field_simp

end Cert.Mla
-- ==== Proof.Attn.lean ====
/-
  Attention with compressed keys and values, as a function of the eight matrices, in coordinates: once as the kernel
  computes it (head by head, divided after the weighted sum) and once as the reference does, and that the two agree when
  the scores are real.
-/
module

public import proofs.«01_k».proof.Proof.Softmax
public import Idealize.ShloMosaic.Lib.Pointwise
public import Mathlib.Algebra.BigOperators.Fin
public import Mathlib.Logic.Equiv.Fin.Basic

@[expose] public section

noncomputable section

namespace Cert.Mla

open Idealize.ShloMosaic

/-- The eight matrices and the factor of the scores. -/
structure Mats where
  x : Fin 1024 → Fin 2048 → EReal
  dkv : Fin 2048 → Fin 256 → EReal
  uk : Fin 256 → Fin 2048 → EReal
  uv : Fin 256 → Fin 2048 → EReal
  wq : Fin 2048 → Fin 2048 → EReal
  wqr : Fin 2048 → Fin 512 → EReal
  wkr : Fin 2048 → Fin 32 → EReal
  wo : Fin 2048 → Fin 2048 → EReal
  κ : EReal

/-- Column `d` of head `h`, -/
def col (h : Fin 16) (d : Fin 128) : Fin 2048 := ⟨h.val * 128 + d.val, by omega⟩
/-- and the same among the rotary columns. -/
def rcol (h : Fin 16) (d : Fin 32) : Fin 512 := ⟨h.val * 32 + d.val, by omega⟩

namespace Mats

variable (A : Mats)

/-- The latents, -/
def lat (t : Fin 1024) (l : Fin 256) : EReal := ∑ k, A.x t k * A.dkv k l
/-- keys, -/
def key (t : Fin 1024) (j : Fin 2048) : EReal := ∑ l, A.lat t l * A.uk l j
/-- values, -/
def val (t : Fin 1024) (j : Fin 2048) : EReal := ∑ l, A.lat t l * A.uv l j
/-- queries, -/
def qry (s : Fin 1024) (j : Fin 2048) : EReal := ∑ k, A.x s k * A.wq k j
/-- rotary queries -/
def qrot (s : Fin 1024) (j : Fin 512) : EReal := ∑ k, A.x s k * A.wqr k j
/-- and rotary keys. -/
def krot (t : Fin 1024) (d : Fin 32) : EReal := ∑ k, A.x t k * A.wkr k d

/-- The score of row `t` for row `s` at head `h`. -/
def score (h : Fin 16) (s t : Fin 1024) : EReal :=
  (∑ d, A.qry s (col h d) * A.key t (col h d) + ∑ d, A.qrot s (rcol h d) * A.krot t d) * A.κ

/-- Head `h`'s contribution to the result, -/
def headOut (h : Fin 16) (s : Fin 1024) (j : Fin 2048) : EReal :=
  ∑ d, softAfter (A.score h s) (fun t => A.val t (col h d)) * A.wo (col h d) j
/-- their sum, -/
def outHeads (s : Fin 1024) (j : Fin 2048) : EReal := ∑ h, A.headOut h s j
/-- and the result over all columns at once. -/
def outCols (s : Fin 1024) (j : Fin 2048) : EReal :=
  ∑ e : Fin 2048, softBefore (A.score ⟨e.val / 128, by omega⟩ s) (fun t => A.val t e) * A.wo e j

/-- What the scores are made of is real. -/
structure Real : Prop where
  x : ∀ t k, IsReal (A.x t k)
  dkv : ∀ k l, IsReal (A.dkv k l)
  uk : ∀ l j, IsReal (A.uk l j)
  wq : ∀ k j, IsReal (A.wq k j)
  wqr : ∀ k j, IsReal (A.wqr k j)
  wkr : ∀ k d, IsReal (A.wkr k d)
  κ : IsReal A.κ

variable {A}

theorem isReal_score (r : A.Real) (h : Fin 16) (s t : Fin 1024) : IsReal (A.score h s t) :=
  have dot {n : ℕ} {f g : Fin n → EReal} (hf : ∀ k, IsReal (f k)) (hg : ∀ k, IsReal (g k)) : IsReal (∑ k, f k * g k) :=
    IsReal.sum _ fun k _ => (hf k).mul (hg k)
  .mul (.add (dot (fun _ => dot (r.x s) fun k => r.wq k _) fun _ => dot (fun _ => dot (r.x t) fun k => r.dkv k _) fun l => r.uk l _)
    (dot (fun _ => dot (r.x s) fun k => r.wqr k _) fun _ => dot (r.x t) fun k => r.wkr k _)) r.κ

/-- A sum over the columns, head by head. -/
theorem sum_cols (f : Fin 2048 → EReal) : ∑ e, f e = ∑ h : Fin 16, ∑ d : Fin 128, f (col h d) := by
  rw [← Fintype.sum_prod_type' fun h d => f (col h d)]
  refine (Fintype.sum_equiv (finProdFinEquiv (m := 16) (n := 128)) _ f fun p => congrArg f (Fin.ext ?_)).symm
  show p.1.val * 128 + p.2.val = p.2.val + 128 * p.1.val
  omega

theorem outHeads_eq (r : A.Real) (s : Fin 1024) (j : Fin 2048) : A.outHeads s j = A.outCols s j := by
  unfold outHeads outCols headOut
  rw [sum_cols]
  refine Finset.sum_congr rfl fun h _ => Finset.sum_congr rfl fun d _ => ?_
  have e : (⟨(col h d).val / 128, by have := (col h d).isLt; omega⟩ : Fin 16) = h := Fin.ext (by
    show (h.val * 128 + d.val) / 128 = h.val
    omega)
  rw [e, softAfter_eq (by decide) _ _ (isReal_score r h s)]

/-- A sum over the latents: one half and the other. -/
def half (b : Fin 2) (l : Fin 128) : Fin 256 := ⟨128 * b.val + l.val, by omega⟩

theorem sum_halves (b : Fin 2) (f : Fin 256 → EReal) : ∑ l, f l = ∑ l, f (half b l) + ∑ l, f (half (1 - b) l) := by
  have e : ∑ l, f l = ∑ l, f (half 0 l) + ∑ l, f (half 1 l) := by
    rw [← Fin.sum_univ_two fun b => ∑ l, f (half b l), ← Fintype.sum_prod_type' fun b l => f (half b l)]
    refine (Fintype.sum_equiv (finProdFinEquiv (m := 2) (n := 128)) _ f fun p => congrArg f (Fin.ext ?_)).symm
    show 128 * p.1.val + p.2.val = p.2.val + 128 * p.1.val
    omega
  rw [e]
  fin_cases b
  · rfl
  · exact add_comm _ _

end Mats

end Cert.Mla
-- ==== Proof.KernelValue.lean ====
/-
  What the kernel leaves in the result buffer of a device, read at an index over the extended reals.
-/
module

public import proofs.«01_k».proof.Proof.Attn
public import proofs.«01_k».proof.Proof.Values
public import Idealize.ShloMosaic.Lib.Pointwise

@[expose] public section

noncomputable section

namespace Cert.Mla

open Cert.KernelIdeal Cert.KernelIdeal.Gen
open Idealize.ShloMosaic Idealize.ShloMosaic.TcCoe

/-! ## Blocks of columns and rows -/

theorem wqBlk_apply (wq : FVec Ideal S2048x2048 .f32) (j : ℕ) (hj : j < 8) (k : Fin 2048) (y : Fin 256) :
    wqBlk wq j hj (ix2 k y) = wq (ix2 k ⟨256 * j + y.val, by omega⟩) := by
  refine congrArg wq (funext fun a => Fin.ext ?_)
  fin_cases a
  · show 0 + 1 * k.val = k.val; omega
  · show 256 * j + 1 * y.val = 256 * j + y.val; omega

theorem woBlk_apply (wo : FVec Ideal S2048x2048 .f32) (h : ℕ) (hh : h < 16) (d : Fin 128) (j : Fin 2048) :
    woBlk wo h hh (ix2 d j) = wo (ix2 (col ⟨h, hh⟩ d) j) := by
  refine congrArg wo (funext fun a => Fin.ext ?_)
  fin_cases a
  · show 128 * h + 1 * d.val = h * 128 + d.val; omega
  · show 0 + 1 * j.val = j.val; omega

theorem headCols_apply (b : FVec Ideal S1024x2048 .bf16) (h : ℕ) (hh : h < 16) (t : Fin 1024) (d : Fin 128) :
    headCols b h hh (ix2 t d) = b (ix2 t (col ⟨h, hh⟩ d)) := by
  refine congrArg b (funext fun a => Fin.ext ?_)
  fin_cases a
  · show 0 + 1 * t.val = t.val; omega
  · show 128 * h + 1 * d.val = h * 128 + d.val; omega

theorem ropeCols_apply (b : FVec Ideal S1024x512 .bf16) (h : ℕ) (hh : h < 16) (t : Fin 1024) (d : Fin 32) :
    extractStridedSlice S1024x32 ![0, 32 * h] b (slices_rope h hh) (ix2 t d) = b (ix2 t (rcol ⟨h, hh⟩ d)) := by
  refine congrArg b (funext fun a => Fin.ext ?_)
  fin_cases a
  · show 0 + t.val = t.val; omega
  · show 32 * h + d.val = h * 32 + d.val; omega

/-! ## The operands -/

theorem qPart_apply (x : FVec Ideal S1024x2048 .bf16) (w : FVec Ideal S2048x256 .f32) (s : Fin 1024) (y : Fin 256) :
    qPart x w (ix2 s y) = ∑ k : Fin 2048, x (ix2 s k) * w (ix2 k y) := by
  pointwise [qPart]

theorem qAll_apply (x : FVec Ideal S1024x2048 .bf16) (wq : FVec Ideal S2048x2048 .f32) (s : Fin 1024) (j : Fin 2048) :
    qAll x wq (ix2 s j) = ∑ k : Fin 2048, x (ix2 s k) * wq (ix2 k j) := by
  have e : qAll x wq (ix2 s j) = qPart x (wqBlk wq (j.val / 256) (by omega)) (ix2 s ⟨j.val % 256, by omega⟩) :=
    congrArg (qPart x _) (funext fun a => match a with | 0 => rfl | 1 => rfl)
  rw [e, qPart_apply]
  refine Finset.sum_congr rfl fun k _ => ?_
  rw [wqBlk_apply]
  refine congrArg (fun e => x (ix2 s k) * wq (ix2 k e)) (Fin.ext ?_)
  show 256 * (j.val / 256) + j.val % 256 = j.val
  omega

theorem rows_apply (x : FVec Ideal S1x1024x2048 .bf16) (s : Fin 1024) (k : Fin 2048) : k0_pay2 (F := Ideal) x (ix2 s k) = x (ix3 0 s k) := by
  pointwise [k0_pay2]

theorem latHalf_apply (x : FVec Ideal S1x1024x2048 .bf16) (w : FVec Ideal S2048x128 .bf16) (t : Fin 1024) (l : Fin 128) :
    k0_pay3 (F := Ideal) x w (ix2 t l) = ∑ k : Fin 2048, x (ix3 0 t k) * w (ix2 k l) := by
  pointwise [k0_pay3, k0_pay2]

theorem qrot_apply (x : FVec Ideal S1x1024x2048 .bf16) (w : FVec Ideal S2048x512 .bf16) (s : Fin 1024) (j : Fin 512) :
    k0_pay14 (F := Ideal) (k0_pay2 x) (k0_pay13 w) (constant S1024x512 .f32 0x00000000#32) (ix2 s j)
      = ∑ k : Fin 2048, x (ix3 0 s k) * w (ix2 k j) := by
  pointwise [k0_pay14, k0_pay13, k0_pay2]

theorem krot_apply (x : FVec Ideal S1x1024x2048 .bf16) (w : FVec Ideal S2048x32 .bf16) (t : Fin 1024) (d : Fin 32) :
    k0_pay15 (F := Ideal) (k0_pay2 x) w (ix2 t d) = ∑ k : Fin 2048, x (ix3 0 t k) * w (ix2 k d) := by
  pointwise [k0_pay15, k0_pay2]

theorem key_apply (a a' : FVec Ideal S1024x128 .bf16) (u u' : FVec Ideal S128x2048 .bf16) (t : Fin 1024) (j : Fin 2048) :
    k0_pay18 (F := Ideal) (k0_pay16 (F := Ideal) a u) a' u' (ix2 t j)
      = ∑ l : Fin 128, a (ix2 t l) * u (ix2 l j) + ∑ l : Fin 128, a' (ix2 t l) * u' (ix2 l j) := by
  pointwise [k0_pay18, k0_pay16]

theorem val_apply (a a' : FVec Ideal S1024x128 .bf16) (u u' : FVec Ideal S128x2048 .bf16) (t : Fin 1024) (j : Fin 2048) :
    k0_pay19 (F := Ideal) (k0_pay17 (F := Ideal) a u) a' u' (ix2 t j)
      = ∑ l : Fin 128, a (ix2 t l) * u (ix2 l j) + ∑ l : Fin 128, a' (ix2 t l) * u' (ix2 l j) :=
  key_apply a a' u u' t j

/-! ## The heads -/

theorem headO_apply (qr kr : FVec Ideal S1024x32 .bf16) (q k v : FVec Ideal S1024x128 .bf16) (w : FVec Ideal S128x2048 .f32)
    (s : Fin 1024) (j : Fin 2048) :
    headO qr kr q k v w (ix2 s j) = ∑ d : Fin 128, softAfter
      (fun t => (∑ d : Fin 128, q (ix2 s d) * k (ix2 t d) + ∑ d : Fin 32, qr (ix2 s d) * kr (ix2 t d)) * Ideal.ofBits .f32 0x3DA1E89B#32)
      (fun t => v (ix2 t d)) * w (ix2 d j) := by
  pointwise [headO, softAfter]

theorem headAt_apply (o : Ops Ideal) (h : ℕ) (hh : h < 16) (s : Fin 1024) (j : Fin 2048) :
    headAt o h hh (ix2 s j) = ∑ d : Fin 128, softAfter
      (fun t => (∑ d : Fin 128, o.q (ix2 s (col ⟨h, hh⟩ d)) * o.k (ix2 t (col ⟨h, hh⟩ d))
        + ∑ d : Fin 32, o.qr (ix2 s (rcol ⟨h, hh⟩ d)) * o.kr (ix2 t d)) * Ideal.ofBits .f32 0x3DA1E89B#32)
      (fun t => o.v (ix2 t (col ⟨h, hh⟩ d))) * o.wo (ix2 (col ⟨h, hh⟩ d) j) := by
  rw [headAt, headO_apply]
  have e := fun d => ropeCols_apply o.qr h hh s d
  simp only [headCols_apply, woBlk_apply]
  simp only [e]

theorem outAcc_apply (o : Ops Ideal) (s : Fin 1024) (j : Fin 2048) : ∀ (h : ℕ) (hh : h < 16),
    outAcc o h hh (ix3 0 s j) = ∑ i : Fin (h + 1), headAt o i.val (by omega) (ix2 s j)
  | 0, hh => by
    rw [Fin.sum_univ_one, outAcc]
    pointwise
  | h + 1, hh => by
    rw [Fin.sum_univ_castSucc]
    simp only [Fin.val_castSucc, Fin.val_last]
    rw [← outAcc_apply o s j h (by omega), outAcc]
    pointwise

end Cert.Mla
-- ==== Proof.RefValue.lean ====
/-
  The reference's result at an index: its composed term, read operation by operation.
-/
module

public import proofs.«01_k».proof.Proof.Attn
public import proofs.«01_k».proof.Proof.Gen.ReferenceIdeal.Run
public import Idealize.ShloMosaic.Lib.Pointwise

@[expose] public section

noncomputable section

namespace Cert.Mla.Ref

open Cert.ReferenceIdeal Cert.ReferenceIdeal.Gen Cert.ReferenceIdeal.Value
open Idealize.ShloMosaic Idealize.ShloMosaic.TcCoe

/-- The matrices the reference's arguments hold. -/
def mats (x : FVec Ideal S1x1024x2048 .bf16) (dkv : FVec Ideal S2048x256 .bf16) (uk uv : FVec Ideal S256x2048 .bf16)
    (wq : FVec Ideal S2048x2048 .f32) (wqr : FVec Ideal S2048x512 .bf16) (wkr : FVec Ideal S2048x32 .bf16)
    (wo : FVec Ideal S2048x2048 .f32) : Mats where
  x t k := x (ix3 0 t k)
  dkv k l := dkv (ix2 k l)
  uk l j := uk (ix2 l j)
  uv l j := uv (ix2 l j)
  wq k j := wq (ix2 k j)
  wqr k j := wqr (ix2 k j)
  wkr k d := wkr (ix2 k d)
  wo e j := wo (ix2 e j)
  κ := Ideal.ofBits .f32 0x3DA1E89B#32

section Pieces

variable (x : FVec Ideal S1x1024x2048 .bf16) (dkv : FVec Ideal S2048x256 .bf16) (uk uv : FVec Ideal S256x2048 .bf16)
  (wq : FVec Ideal S2048x2048 .f32) (wqr : FVec Ideal S2048x512 .bf16) (wkr : FVec Ideal S2048x32 .bf16)
  (wo : FVec Ideal S2048x2048 .f32)

/-- Keys or values: the latents times one of the two matrices, -/
def kvT (u : FVec Ideal S256x2048 .bf16) : FVec Ideal S1x1024x16x128 .f32 :=
  shapeCast _ (Host.dotGeneral (F := Ideal) dot_S1x1024x256_S256x2048_S1x1024x2048_2_0_01_1_n_n none
    (Host.dotGeneral (F := Ideal) dot_S1x1024x2048_S2048x256_S1x1024x256_2_0_01_1_n_n none (extf .f32 x bitsLt_bf16_f32) (extf .f32 dkv bitsLt_bf16_f32))
    (extf .f32 u bitsLt_bf16_f32)) shapeCasts_S1x1024x2048_S1x1024x16x128

theorem kvT_apply (u : FVec Ideal S256x2048 .bf16) (t : Fin 1024) (h : Fin 16) (d : Fin 128) :
    kvT x dkv u (ix4 0 t h d) = ∑ l : Fin 256, (∑ k : Fin 2048, x (ix3 0 t k) * dkv (ix2 k l)) * u (ix2 l (col h d)) := by
  pointwise [kvT, col]

/-- the queries, -/
def qT : FVec Ideal S1x1024x16x128 .f32 :=
  shapeCast _ (Host.dotGeneral (F := Ideal) dot_S1x1024x2048_S2048x2048_S1x1024x2048_2_0_01_1_n_n none (extf .f32 x bitsLt_bf16_f32) wq)
    shapeCasts_S1x1024x2048_S1x1024x16x128

theorem qT_apply (s : Fin 1024) (h : Fin 16) (d : Fin 128) :
    qT x wq (ix4 0 s h d) = ∑ k : Fin 2048, x (ix3 0 s k) * wq (ix2 k (col h d)) := by
  pointwise [qT, col]

/-- the rotary queries -/
def qrT : FVec Ideal S1x1024x16x32 .f32 :=
  shapeCast _ (Host.dotGeneral (F := Ideal) dot_S1x1024x2048_S2048x512_S1x1024x512_2_0_01_1_n_n none (extf .f32 x bitsLt_bf16_f32)
    (extf .f32 wqr bitsLt_bf16_f32)) shapeCasts_S1x1024x512_S1x1024x16x32

theorem qrT_apply (s : Fin 1024) (h : Fin 16) (d : Fin 32) :
    qrT x wqr (ix4 0 s h d) = ∑ k : Fin 2048, x (ix3 0 s k) * wqr (ix2 k (rcol h d)) := by
  pointwise [qrT, rcol]

/-- and the rotary keys, the same at every head. -/
def krT : FVec Ideal S1x1024x16x32 .f32 :=
  broadcastInDim S1x1024x16x32 ![0, 1, 2, 3] bcast_S1x1024x1x32_S1x1024x16x32_0_1_2_3
    (shapeCast _ (Host.dotGeneral (F := Ideal) dot_S1x1024x2048_S2048x32_S1x1024x32_2_0_01_1_n_n none (extf .f32 x bitsLt_bf16_f32)
      (extf .f32 wkr bitsLt_bf16_f32)) shapeCasts_S1x1024x32_S1x1024x1x32)

theorem krT_apply (t : Fin 1024) (h : Fin 16) (d : Fin 32) :
    krT x wkr (ix4 0 t h d) = ∑ k : Fin 2048, x (ix3 0 t k) * wkr (ix2 k d) := by
  pointwise [krT]

end Pieces

/-- The scores, -/
def scoreT (q k : FVec Ideal S1x1024x16x128 .f32) (qr kr : FVec Ideal S1x1024x16x32 .f32) : FVec Ideal S1x16x1024x1024 .f32 :=
  mulf (addf (Host.dotGeneral (F := Ideal) dot_S1x1024x16x128_S1x1024x16x128_S1x16x1024x1024_3_3_1_1_02_02 none q k)
      (Host.dotGeneral (F := Ideal) dot_S1x1024x16x32_S1x1024x16x32_S1x16x1024x1024_3_3_1_1_02_02 none qr kr))
    (broadcastInDim S1x16x1024x1024 ![] bcast_S_S1x16x1024x1024 (constant S_ .f32 0x3DA1E89B#32))

theorem scoreT_apply (q k : FVec Ideal S1x1024x16x128 .f32) (qr kr : FVec Ideal S1x1024x16x32 .f32) (h : Fin 16) (s t : Fin 1024) :
    scoreT q k qr kr (ix4 0 h s t)
      = (∑ d : Fin 128, q (ix4 0 s h d) * k (ix4 0 t h d) + ∑ d : Fin 32, qr (ix4 0 s h d) * kr (ix4 0 t h d))
        * Ideal.ofBits .f32 0x3DA1E89B#32 := by
  pointwise [scoreT]

/-- their exponentials less the row's maximum, -/
def expT (S : FVec Ideal S1x16x1024x1024 .f32) : FVec Ideal S1x16x1024x1024 .f32 :=
  Host.exp (F := Ideal) (subf S (broadcastInDim S1x16x1024x1024 ![0, 1, 2, 3] bcast_S1x16x1024x1_S1x16x1024x1024_0_1_2_3
    (broadcastInDim S1x16x1024x1 ![0, 1, 2] bcast_S1x16x1024_S1x16x1024x1_0_1_2
      (Host.reduce FloatOps.maximumf S (constant (F := Ideal) S_ .f32 0xFF800000#32) reducesTo_S1x16x1024x1024_S1x16x1024_d3 h_S_))))

theorem expT_apply (S : FVec Ideal S1x16x1024x1024 .f32) (h : Fin 16) (s t : Fin 1024) :
    expT S (ix4 0 h s t)
      = Ideal.exp (S (ix4 0 h s t) - Finset.univ.fold max ⊥ fun u : Fin 1024 => S (ix4 0 h s u)) := by
  have e : Ideal.ofBits .f32 0xFF800000#32 = ⊥ := by simp [Ideal.ofBits, Ideal.ieee]
  pointwise [expT]
  rw [e]

/-- the weights, -/
def weightT (E : FVec Ideal S1x16x1024x1024 .f32) : FVec Ideal S1x16x1024x1024 .f32 :=
  Host.divf (F := Ideal) E (broadcastInDim S1x16x1024x1024 ![0, 1, 2, 3] bcast_S1x16x1024x1_S1x16x1024x1024_0_1_2_3
    (broadcastInDim S1x16x1024x1 ![0, 1, 2] bcast_S1x16x1024_S1x16x1024x1_0_1_2
      (Host.reduceAdd (F := Ideal) E (constant S_ .f32 0x00000000#32) reducesTo_S1x16x1024x1024_S1x16x1024_d3 h_S_)))

theorem weightT_apply (E : FVec Ideal S1x16x1024x1024 .f32) (h : Fin 16) (s t : Fin 1024) :
    weightT E (ix4 0 h s t) = Ideal.div (E (ix4 0 h s t)) (∑ u : Fin 1024, E (ix4 0 h s u)) := by
  pointwise [weightT]

/-- and the result. -/
def outT (v : FVec Ideal S1x1024x16x128 .f32) (P : FVec Ideal S1x16x1024x1024 .f32) (wo : FVec Ideal S2048x2048 .f32) :
    FVec Ideal S1x1024x2048 .f32 :=
  Host.dotGeneral (F := Ideal) dot_S1x1024x2048_S2048x2048_S1x1024x2048_2_0_01_1_n_n none
    (shapeCast _ (transpose S1x1024x16x128 [0, 3, 1, 2]
      (Host.dotGeneral (F := Ideal) dot_S1x1024x16x128_S1x16x1024x1024_S1x16x128x1024_1_3_3_2_02_01 none v P)
      transposes_S1x16x128x1024_S1x1024x16x128_0_3_1_2) shapeCasts_S1x1024x16x128_S1x1024x2048) wo

theorem outT_apply (v : FVec Ideal S1x1024x16x128 .f32) (P : FVec Ideal S1x16x1024x1024 .f32) (wo : FVec Ideal S2048x2048 .f32)
    (s : Fin 1024) (j : Fin 2048) :
    outT v P wo (ix3 0 s j) = ∑ e : Fin 2048, (∑ t : Fin 1024,
        v (ix4 0 t ⟨e.val / 128, by omega⟩ ⟨e.val % 128, by omega⟩) * P (ix4 0 ⟨e.val / 128, by omega⟩ s t)) * wo (ix2 e j) := by
  pointwise [outT]

theorem isReal_scale : IsReal (Ideal.ofBits .f32 0x3DA1E89B#32) := by
  show IsReal (Ideal.ieee 8 23 0x3DA1E89B#32)
  unfold Ideal.ieee
  rw [if_neg (by decide), if_neg (by decide)]
  exact ⟨_, rfl⟩

/-- The composed term of the reference, piece by piece. -/
theorem res_pieces (m : (ℓ : Loc nD τ sig) → Buf (Elt Ideal) ℓ) (c : Dev nD) :
    res_main_v35 (F := Ideal) m c
      = outT (kvT (m (c.tc.loc main_arg0)) (m (c.tc.loc main_arg1)) (m (c.tc.loc main_arg3)))
          (weightT (expT (scoreT (qT (m (c.tc.loc main_arg0)) (m (c.tc.loc main_arg4)))
            (kvT (m (c.tc.loc main_arg0)) (m (c.tc.loc main_arg1)) (m (c.tc.loc main_arg2)))
            (qrT (m (c.tc.loc main_arg0)) (m (c.tc.loc main_arg5))) (krT (m (c.tc.loc main_arg0)) (m (c.tc.loc main_arg6))))))
          (m (c.tc.loc main_arg7)) := rfl

/-- The matrices the memory's argument arrays hold, -/
def matsOf (m : (ℓ : Loc nD τ sig) → Buf (Elt Ideal) ℓ) (c : Dev nD) : Mats :=
  mats (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7))

/-- and the reference's result at an index. -/
theorem res_apply (m : (ℓ : Loc nD τ sig) → Buf (Elt Ideal) ℓ) (c : Dev nD) (s : Fin 1024) (j : Fin 2048) :
    res_main_v35 (F := Ideal) m c (ix3 0 s j) = (matsOf m c).outCols s j := by
  have ce (e : Fin 2048) : col ⟨e.val / 128, by omega⟩ ⟨e.val % 128, by omega⟩ = e := Fin.ext (by
    show e.val / 128 * 128 + e.val % 128 = e.val
    omega)
  rw [res_pieces]
  refine (outT_apply _ _ _ s j).trans ?_
  refine Finset.sum_congr rfl fun e _ => congrArg (· * _) (Finset.sum_congr rfl fun t _ => ?_)
  rw [kvT_apply, ce, weightT_apply]
  simp only [expT_apply, scoreT_apply, qT_apply, kvT_apply, qrT_apply, krT_apply]
  rfl

end Cert.Mla.Ref
-- ==== Proof.Pre.lean ====
/-
  What the precondition says: the arrays the scores are made of hold reals.
-/
module

public import proofs.«01_k».proof.Defs
public import proofs.«01_k».proof.Proof.Softmax
public import proofs.«01_k».proof.Proof.Gen.Pre_finite_KernelIdeal
public import Idealize.ShloMosaic.Lib.ReduceAll
public import Idealize.ShloMosaic.Lib.Pointwise

@[expose] public section

noncomputable section

namespace Cert.Mla.Pre

open Cert.Pre_finite_KernelIdeal Cert.Pre_finite_KernelIdeal.Facts
open Idealize.ShloMosaic

theorem subsingleton_scalar : Subsingleton S_.Idx := ⟨fun a b => funext fun i => i.elim0⟩

/-- An absolute value below `+∞` is a real's. -/
theorem isReal_of_abs_lt {x : EReal} (h : max x (-x) < ⊤) : IsReal x := by
  induction x using EReal.rec with
  | bot => exact absurd h (by simp)
  | coe r => exact ⟨r, rfl⟩
  | top => exact absurd h (by simp)

/-- All of an array's absolute values compare below `+∞`: it holds reals. -/
theorem isReal_of_reduce {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf (F := Ideal) .olt (Host.absf (F := Ideal) x) (broadcastInDim s ![] hb (constant S_ .f32 0x7F800000#32)))
      (constantI S_ 1 1#1) hr hu ix0 = 1#1) (i : s.Idx) : IsReal (x i) := by
  haveI := subsingleton_scalar
  have top : Ideal.ofBits .f32 0x7F800000#32 = ⊤ := by simp [Ideal.ofBits, Ideal.ieee]
  have h1 : Ideal.cmp .olt (max (x i) (-(x i))) (Ideal.ofBits .f32 0x7F800000#32) = 1#1 :=
    Host.reduce_andi_all _ _ hr hu _ e i
  rw [top] at h1
  by_contra hn
  have : ¬ max (x i) (-(x i)) < ⊤ := fun h => hn (isReal_of_abs_lt h)
  simp [Ideal.cmp, this] at h1

/-- The precondition on one device's arrays. -/
theorem reals (x : FVec Ideal S1x1024x2048 .bf16) (dkv : FVec Ideal S2048x128 .bf16) (uk uv : FVec Ideal S128x2048 .bf16)
    (wq : FVec Ideal S2048x2048 .f32) (wqr : FVec Ideal S2048x512 .bf16) (wkr : FVec Ideal S2048x32 .bf16)
    (wo : FVec Ideal S2048x2048 .f32) (h : fn (F := Ideal) x dkv uk uv wq wqr wkr wo = fun _ => 1#1) :
    (∀ i, IsReal (wq i)) ∧ (∀ i, IsReal (x i)) ∧ (∀ i, IsReal (dkv i)) ∧ (∀ i, IsReal (uk i)) ∧ (∀ i, IsReal (wqr i))
      ∧ ∀ i, IsReal (wkr i) := by
  have e := congrFun h ix0
  dsimp only [fn, fn_part1] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  exact ⟨isReal_of_reduce _ _ _ _ h1, isReal_of_reduce _ _ _ _ h2, isReal_of_reduce _ _ _ _ h3, isReal_of_reduce _ _ _ _ h4,
    isReal_of_reduce _ _ _ _ h5, isReal_of_reduce _ _ _ _ h6⟩

end Cert.Mla.Pre
-- ==== Proof.Equal.lean ====
/-
  The value: what the kernel leaves on every device is the reference's result, when the arrays the scores are made of
  hold reals. The keys' and values' latents come in two halves, a device's own and its peer's; the sum over both is the
  sum over all latents whichever half a device holds.
-/
module

public import proofs.«01_k».proof.Defs
public import proofs.«01_k».proof.Proof.Frames
public import proofs.«01_k».proof.Proof.KernelValue
public import proofs.«01_k».proof.Proof.RefValue
public import proofs.«01_k».proof.Proof.Pre
public import Idealize.ShloMosaic.Lib.Layout

@[expose] public section

noncomputable section

namespace Cert.Mla

open Cert.KernelIdeal Cert.KernelIdeal.Gen
open Idealize.ShloMosaic Idealize.ShloMosaic.TcCoe

/-! ## The staged arguments are the arrays -/

section Staged

variable {F : FTy → Type} [FloatOps F] (m : (ℓ : Loc nD τ sig) → Buf (Elt F) ℓ) (ρ : Dev nD → PrngReg) (c : Dev nD)

theorem first_block (n s x : ℕ) (h : n = 0) : n * s + 1 * x = x := by rw [h]; omega

theorem xst_eq : xst m ρ c = m (c.tc.loc main_arg0) :=
  funext fun _ => congrArg (m (c.tc.loc main_arg0)) (funext fun _ => Fin.ext (first_block _ _ _ rfl))
theorem wdst_eq : wdst m ρ c = m (c.tc.loc main_arg1) :=
  funext fun _ => congrArg (m (c.tc.loc main_arg1)) (funext fun _ => Fin.ext (first_block _ _ _ rfl))
theorem ukst_eq : ukst m ρ c = m (c.tc.loc main_arg2) :=
  funext fun _ => congrArg (m (c.tc.loc main_arg2)) (funext fun _ => Fin.ext (first_block _ _ _ rfl))
theorem uvst_eq : uvst m ρ c = m (c.tc.loc main_arg3) :=
  funext fun _ => congrArg (m (c.tc.loc main_arg3)) (funext fun _ => Fin.ext (first_block _ _ _ rfl))
theorem wqrst_eq : wqrst m ρ c = m (c.tc.loc main_arg5) :=
  funext fun _ => congrArg (m (c.tc.loc main_arg5)) (funext fun _ => Fin.ext (first_block _ _ _ rfl))
theorem wkrst_eq : wkrst m ρ c = m (c.tc.loc main_arg6) :=
  funext fun _ => congrArg (m (c.tc.loc main_arg6)) (funext fun _ => Fin.ext (first_block _ _ _ rfl))

end Staged

/-! ## The blocks a device holds -/

/-- The half of the latents that device `c` holds; -/
def halfOf (c : Dev nD) : Fin 2 := ⟨c.val / 8, by have : c.val < 16 := c.isLt; omega⟩
/-- its peer holds the other one. -/
theorem halfOf_peer (c : Dev nD) : halfOf (peer c) = 1 - halfOf c := by revert c; decide +kernel

theorem cols_block (c : Dev nD) (w : FVec Ideal ⟨2, ![2048, 256]⟩ .bf16) (k : Fin 2048) (l : Fin 128) :
    (Layout.blockN ⟨2, ![2048, 128]⟩ ⟨2, ![2048, 256]⟩ (Layout.meshBlock [2, 2, 4] ![[], [0]] c) w) (ix2 k l)
      = w (ix2 k (Mats.half (halfOf c) l)) := by
  have hc : c.val < 16 := c.isLt
  refine congrArg w (funext fun a => Fin.ext ?_)
  fin_cases a
  · show 0 * 2048 + k.val = k.val; omega
  · show ((c.val / 8) % 2 * 1 + 0) * 128 + l.val = 128 * (c.val / 8) + l.val; omega

theorem rows_block (c : Dev nD) (w : FVec Ideal ⟨2, ![256, 2048]⟩ .bf16) (l : Fin 128) (j : Fin 2048) :
    (Layout.blockN ⟨2, ![128, 2048]⟩ ⟨2, ![256, 2048]⟩ (Layout.meshBlock [2, 2, 4] ![[0], []] c) w) (ix2 l j)
      = w (ix2 (Mats.half (halfOf c) l) j) := by
  have hc : c.val < 16 := c.isLt
  refine congrArg w (funext fun a => Fin.ext ?_)
  fin_cases a
  · show ((c.val / 8) % 2 * 1 + 0) * 128 + l.val = 128 * (c.val / 8) + l.val; omega
  · show 0 * 2048 + j.val = j.val; omega

/-- Every device's arrays are its parts of the matrices `A`. -/
structure Parts (m : (ℓ : Loc nD τ sig) → Buf (Elt Ideal) ℓ) (A : Mats) : Prop where
  x (c : Dev nD) (t : Fin 1024) (k : Fin 2048) : (m (c.tc.loc main_arg0) : FVec Ideal S1x1024x2048 .bf16) (ix3 0 t k) = A.x t k
  dkv (c : Dev nD) (k : Fin 2048) (l : Fin 128) : (m (c.tc.loc main_arg1) : FVec Ideal S2048x128 .bf16) (ix2 k l) = A.dkv k (Mats.half (halfOf c) l)
  uk (c : Dev nD) (l : Fin 128) (j : Fin 2048) : (m (c.tc.loc main_arg2) : FVec Ideal S128x2048 .bf16) (ix2 l j) = A.uk (Mats.half (halfOf c) l) j
  uv (c : Dev nD) (l : Fin 128) (j : Fin 2048) : (m (c.tc.loc main_arg3) : FVec Ideal S128x2048 .bf16) (ix2 l j) = A.uv (Mats.half (halfOf c) l) j
  wq (c : Dev nD) (k j : Fin 2048) : (m (c.tc.loc main_arg4) : FVec Ideal S2048x2048 .f32) (ix2 k j) = A.wq k j
  wqr (c : Dev nD) (k : Fin 2048) (j : Fin 512) : (m (c.tc.loc main_arg5) : FVec Ideal S2048x512 .bf16) (ix2 k j) = A.wqr k j
  wkr (c : Dev nD) (k : Fin 2048) (d : Fin 32) : (m (c.tc.loc main_arg6) : FVec Ideal S2048x32 .bf16) (ix2 k d) = A.wkr k d
  wo (c : Dev nD) (e j : Fin 2048) : (m (c.tc.loc main_arg7) : FVec Ideal S2048x2048 .f32) (ix2 e j) = A.wo e j
  κ : A.κ = Ideal.ofBits .f32 0x3DA1E89B#32

section Value

variable {m : (ℓ : Loc nD τ sig) → Buf (Elt Ideal) ℓ} {A : Mats} (H : Parts m A) (ρ : Dev nD → PrngReg) (c : Dev nD)

include H

theorem ops_lat (t : Fin 1024) (l : Fin 128) :
    (csend m ρ c : FVec Ideal S1024x128 .bf16) (ix2 t l) = A.lat t (Mats.half (halfOf c) l) := by
  rw [csend, xst_eq, wdst_eq]
  refine (latHalf_apply _ _ t l).trans (Finset.sum_congr rfl fun k _ => ?_)
  rw [H.x, H.dkv]

/-- A device's product of latents and its peer's add up to the product over all latents. -/
theorem ops_halves (u : Dev nD → FVec Ideal S128x2048 .bf16) (U : Fin 256 → Fin 2048 → EReal)
    (hu : ∀ c l j, u c (ix2 l j) = U (Mats.half (halfOf c) l) j) (t : Fin 1024) (j : Fin 2048) :
    k0_pay18 (F := Ideal) (k0_pay16 (F := Ideal) (csend m ρ c) (u c)) (csend m ρ (peer c)) (u (peer c)) (ix2 t j)
      = ∑ l, A.lat t l * U l j := by
  refine (key_apply _ _ _ _ t j).trans ?_
  rw [Mats.sum_halves (halfOf c), ← halfOf_peer]
  refine congrArg₂ (· + ·) (Finset.sum_congr rfl fun l _ => ?_) (Finset.sum_congr rfl fun l _ => ?_) <;>
    exact congrArg₂ (· * ·) (ops_lat H ρ _ t l) (hu _ l j)

theorem ops_key (wq wo : FVec Ideal S2048x2048 .f32) (t : Fin 1024) (j : Fin 2048) :
    (opsOf m ρ c wq wo).k (ix2 t j) = A.key t j :=
  ops_halves H ρ c (fun c => ukst m ρ c) A.uk (fun c l j => by rw [ukst_eq]; exact H.uk c l j) t j

theorem ops_val (wq wo : FVec Ideal S2048x2048 .f32) (t : Fin 1024) (j : Fin 2048) :
    (opsOf m ρ c wq wo).v (ix2 t j) = A.val t j :=
  ops_halves H ρ c (fun c => uvst m ρ c) A.uv (fun c l j => by rw [uvst_eq]; exact H.uv c l j) t j

theorem ops_qry (wo : FVec Ideal S2048x2048 .f32) (s : Fin 1024) (j : Fin 2048) :
    (opsOf m ρ c (wqOf m c) wo).q (ix2 s j) = A.qry s j := by
  refine (qAll_apply _ _ s j).trans (Finset.sum_congr rfl fun k _ => ?_)
  rw [xst_eq, rows_apply]
  exact congrArg₂ (· * ·) (H.x c s k) (H.wq c k j)

theorem ops_qrot (wq wo : FVec Ideal S2048x2048 .f32) (s : Fin 1024) (j : Fin 512) :
    (opsOf m ρ c wq wo).qr (ix2 s j) = A.qrot s j := by
  refine (qrot_apply _ _ s j).trans (Finset.sum_congr rfl fun k _ => ?_)
  rw [xst_eq, wqrst_eq]
  exact congrArg₂ (· * ·) (H.x c s k) (H.wqr c k j)

theorem ops_krot (wq wo : FVec Ideal S2048x2048 .f32) (t : Fin 1024) (d : Fin 32) :
    (opsOf m ρ c wq wo).kr (ix2 t d) = A.krot t d := by
  refine (krot_apply _ _ t d).trans (Finset.sum_congr rfl fun k _ => ?_)
  rw [xst_eq, wkrst_eq]
  exact congrArg₂ (· * ·) (H.x c t k) (H.wkr c k d)

/-- What device `c` ends with, at an index. -/
theorem out_apply (s : Fin 1024) (j : Fin 2048) :
    (outOf m ρ c : FVec Ideal S1x1024x2048 .f32) (ix3 0 s j) = A.outHeads s j := by
  refine (outAcc_apply _ s j 15 (by decide)).trans (Finset.sum_congr rfl fun h _ => ?_)
  rw [headAt_apply]
  simp only [ops_key H, ops_val H, ops_qry H, ops_qrot H, ops_krot H, ← H.κ]
  refine Finset.sum_congr rfl fun d _ => ?_
  exact congrArg (_ * ·) (H.wo c _ j)

end Value

/-! ## The claim -/

/-- The matrices the scores are made of are real when every device's blocks of them are. -/
theorem real_of_parts {m : (ℓ : Loc nD τ sig) → Buf (Elt Ideal) ℓ} {A : Mats} (H : Parts m A)
    (h : Cert.Pre_KernelIdeal_finite_KernelIdeal m) : A.Real := by
  have r := fun c => Pre.reals _ _ _ _ _ _ _ _ (h c)
  have cover (l : Fin 256) : ∃ (c : Dev nD) (l' : Fin 128), l = Mats.half (halfOf c) l' :=
    ⟨⟨8 * (l.val / 128), by show 8 * (l.val / 128) < 16; omega⟩, ⟨l.val % 128, by omega⟩, Fin.ext (by
      show l.val = 128 * (8 * (l.val / 128) / 8) + l.val % 128
      omega)⟩
  exact
    { x := fun t k => H.x 0 t k ▸ (r 0).2.1 _
      dkv := fun k l => by
        obtain ⟨c, l', rfl⟩ := cover l
        exact H.dkv c k l' ▸ (r c).2.2.1 _
      uk := fun l j => by
        obtain ⟨c, l', rfl⟩ := cover l
        exact H.uk c l' j ▸ (r c).2.2.2.1 _
      wq := fun k j => H.wq 0 k j ▸ (r 0).1 _
      wqr := fun k j => H.wqr 0 k j ▸ (r 0).2.2.2.2.1 _
      wkr := fun k d => H.wkr 0 k d ▸ (r 0).2.2.2.2.2 _
      κ := H.κ ▸ Ref.isReal_scale }

theorem algebraic : Cert.algebraic_KernelIdeal_ReferenceIdeal_pre_finite_KernelIdeal := fun m g m' g' hpre hin => by
  have H : Parts m (Ref.matsOf m' 0) :=
    { x := fun c t k => congrFun (hin c).1 _
      dkv := fun c k l => (congrFun (hin c).2.1 _).trans (cols_block c _ k l)
      uk := fun c l j => (congrFun (hin c).2.2.1 _).trans (rows_block c _ l j)
      uv := fun c l j => (congrFun (hin c).2.2.2.1 _).trans (rows_block c _ l j)
      wq := fun c k j => congrFun (hin c).2.2.2.2.1 _
      wqr := fun c k j => congrFun (hin c).2.2.2.2.2.1 _
      wkr := fun c k d => congrFun (hin c).2.2.2.2.2.2.1 _
      wo := fun c e j => congrFun (hin c).2.2.2.2.2.2.2 _
      κ := rfl }
  have same (c : Dev nD) : outOf m g c = Cert.ReferenceIdeal.Value.res_main_v35 (F := Ideal) m' 0 := funext fun i => by
    have hi : i = ix3 0 (i 1) (i 2) := (eq_ix3 (n0 := 1) (n1 := 1024) (n2 := 2048) i).trans
      (congrArg (fun a => ix3 a (i 1) (i 2)) (Subsingleton.elim (α := Fin 1) _ _))
    rw [hi]
    exact (out_apply H g c _ _).trans ((Mats.outHeads_eq (real_of_parts H hpre) _ _).trans (Ref.res_apply m' 0 _ _).symm)
  refine ⟨Cert.ReferenceIdeal.Value.res_main_v35 (F := Ideal) m' 0, ?_, ?_⟩
  · exact (θ_run Cert.KernelIdeal.defs _ _).mono (fun _ h c => ⟨(h.2.1 c).trans (same c), h.1 c⟩) (run_main (F := Ideal) m g)
  · exact (θ_run Cert.ReferenceIdeal.defs _ _).mono (fun _ h => h 0) (Cert.ReferenceIdeal.Value.run (F := Ideal) m' g')

end Cert.Mla
-- ==== Proof.lean ====
/-
  The certificate: the frames of the three programs, that the second program is the first read over the extended reals,
  and that its result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Equal

@[expose] public section

noncomputable section

namespace Cert.Proof

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    Cert.Mla.frame_kernel, Cert.Mla.frame_ideal, fun m g _ => Cert.Mla.frame_ideal m g trivial,
    Cert.Mla.frame_reference, fun m g _ => Cert.Mla.frame_reference m g trivial, trivial, Cert.Mla.algebraic⟩

end Cert.Proof

end
